-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v508) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S4096x3 : Shape := ⟨2, ![4096, 3]⟩
abbrev S4096x256 : Shape := ⟨2, ![4096, 256]⟩
abbrev S4x256 : Shape := ⟨2, ![4, 256]⟩
abbrev S4x256x768 : Shape := ⟨3, ![4, 256, 768]⟩
abbrev S4x256x256 : Shape := ⟨3, ![4, 256, 256]⟩
abbrev S4x256x1024 : Shape := ⟨3, ![4, 256, 1024]⟩
abbrev S4x1024 : Shape := ⟨2, ![4, 1024]⟩
abbrev S4x1024x256 : Shape := ⟨3, ![4, 1024, 256]⟩
abbrev S_ : Shape := ⟨0, ![]⟩
abbrev S4x256x512 : Shape := ⟨3, ![4, 256, 512]⟩

class Facts : Prop where
  slices_S4x256x768_S4x256x512_0_0_0 : S4x256x768.Slices ![0, 0, 0] S4x256x512
  bcast_S_S4096x3 : S_.BroadcastsInDim S4096x3 (![] : Fin 0 → Fin S4096x3.rank)
  bcast_S_S4x256 : S_.BroadcastsInDim S4x256 (![] : Fin 0 → Fin S4x256.rank)
  bcast_S_S4x256x512 : S_.BroadcastsInDim S4x256x512 (![] : Fin 0 → Fin S4x256x512.rank)

variable [Facts]

def fn {F : FTy → Type} [FloatOps F] (main_arg0 : FVec F S4096x3 .f32) (main_arg1 : FVec F S4096x256 .f32) (main_arg2 : FVec F S4x256 .f32) (main_arg3 : FVec F S4x256 .f32) (main_arg4 : FVec F S4x256x768 .f32) (main_arg5 : FVec F S4x256x256 .f32) (main_arg6 : FVec F S4x256 .f32) (main_arg7 : FVec F S4x256 .f32) (main_arg8 : FVec F S4x256 .f32) (main_arg9 : FVec F S4x256x1024 .f32) (main_arg10 : FVec F S4x1024 .f32) (main_arg11 : FVec F S4x1024x256 .f32) (main_arg12 : FVec F S4x256 .f32) (main_arg13 : IVec S_ 32) : IVec S4096x3 1 × IVec S4x256 1 × IVec S4x256 1 × IVec S4x256x512 1 :=
  let main_v0 : FVec F S4x256x512 .f32 := (extractStridedSlice S4x256x512 ![0, 0, 0] · slices_S4x256x768_S4x256x512_0_0_0) main_arg4
  let main_v1 : FVec F S4096x3 .f32 := subf main_arg0 main_arg0
  let main_cst : FVec F S_ .f32 := constant S_ .f32 0x00000000#32
  let main_v2 : FVec F S4096x3 .f32 := broadcastInDim S4096x3 ![] bcast_S_S4096x3 main_cst
  let main_v3 : IVec S4096x3 1 := cmpf .oeq main_v1 main_v2
  let main_v4 : FVec F S4x256 .f32 := subf main_arg2 main_arg2
  let main_cst_0 : FVec F S_ .f32 := constant S_ .f32 0x00000000#32
  let main_v5 : FVec F S4x256 .f32 := broadcastInDim S4x256 ![] bcast_S_S4x256 main_cst_0
  let main_v6 : IVec S4x256 1 := cmpf .oeq main_v4 main_v5
  let main_v7 : FVec F S4x256 .f32 := subf main_arg3 main_arg3
  let main_cst_1 : FVec F S_ .f32 := constant S_ .f32 0x00000000#32
  let main_v8 : FVec F S4x256 .f32 := broadcastInDim S4x256 ![] bcast_S_S4x256 main_cst_1
  let main_v9 : IVec S4x256 1 := cmpf .oeq main_v7 main_v8
  let main_v10 : FVec F S4x256x512 .f32 := subf main_v0 main_v0
  let main_cst_2 : FVec F S_ .f32 := constant S_ .f32 0x00000000#32
  let main_v11 : FVec F S4x256x512 .f32 := broadcastInDim S4x256x512 ![] bcast_S_S4x256x512 main_cst_2
  let main_v12 : IVec S4x256x512 1 := cmpf .oeq main_v10 main_v11
  (main_v3, main_v6, main_v9, main_v12)
-- ==== Kernel.lean ====
abbrev S4096x3 : Shape := ⟨2, ![4096, 3]⟩
abbrev S4096x256 : Shape := ⟨2, ![4096, 256]⟩
abbrev S4x256 : Shape := ⟨2, ![4, 256]⟩
abbrev S4x256x768 : Shape := ⟨3, ![4, 256, 768]⟩
abbrev S4x256x256 : Shape := ⟨3, ![4, 256, 256]⟩
abbrev S4x256x1024 : Shape := ⟨3, ![4, 256, 1024]⟩
abbrev S4x1024 : Shape := ⟨2, ![4, 1024]⟩
abbrev S4x1024x256 : Shape := ⟨3, ![4, 1024, 256]⟩
abbrev S_ : Shape := ⟨0, ![]⟩
abbrev S3x4096 : Shape := ⟨2, ![3, 4096]⟩
abbrev S4096x4096 : Shape := ⟨2, ![4096, 4096]⟩
abbrev S256x3 : Shape := ⟨2, ![256, 3]⟩
abbrev S256x4096 : Shape := ⟨2, ![256, 4096]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S1x256 : Shape := ⟨2, ![1, 256]⟩
abbrev S1x256x768 : Shape := ⟨3, ![1, 256, 768]⟩
abbrev S256x768 : Shape := ⟨2, ![256, 768]⟩
abbrev S256x256 : Shape := ⟨2, ![256, 256]⟩
abbrev S1x256x256 : Shape := ⟨3, ![1, 256, 256]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1x1024x256 : Shape := ⟨3, ![1, 1024, 256]⟩
abbrev S1024x256 : Shape := ⟨2, ![1024, 256]⟩

abbrev nBuf : Space → Nat
  | .hbm => 148
  | .vmem => 121
  | .smem => 0
  | _ => 0

abbrev hbmTy0_0 (i : Nat) : BufTy := match i % 128 with
  | 0 => ⟨S4096x3, .f32⟩
  | 1 => ⟨S4096x256, .f32⟩
  | 2 => ⟨S4x256, .f32⟩
  | 3 => ⟨S4x256, .f32⟩
  | 4 => ⟨S4x256x768, .f32⟩
  | 5 => ⟨S4x256x256, .f32⟩
  | 6 => ⟨S4x256, .f32⟩
  | 7 => ⟨S4x256, .f32⟩
  | 8 => ⟨S4x256, .f32⟩
  | 9 => ⟨S4x256x1024, .f32⟩
  | 10 => ⟨S4x1024, .f32⟩
  | 11 => ⟨S4x1024x256, .f32⟩
  | 12 => ⟨S4x256, .f32⟩
  | 13 => ⟨S_, .i32⟩
  | 14 => ⟨S3x4096, .f32⟩
  | 15 => ⟨S4096x4096, .i8⟩
  | 16 => ⟨S1x256, .f32⟩
  | 17 => ⟨S256, .f32⟩
  | 18 => ⟨S1x256, .f32⟩
  | 19 => ⟨S1x256, .f32⟩
  | 20 => ⟨S256, .f32⟩
  | 21 => ⟨S1x256, .f32⟩
  | 22 => ⟨S1x256x768, .f32⟩
  | 23 => ⟨S256x768, .f32⟩
  | 24 => ⟨S4096x256, .f32⟩
  | 25 => ⟨S4096x256, .f32⟩
  | 26 => ⟨S4096x256, .f32⟩
  | 27 => ⟨S1x256x256, .f32⟩
  | 28 => ⟨S256x256, .f32⟩
  | 29 => ⟨S1x256, .f32⟩
  | 30 => ⟨S256, .f32⟩
  | 31 => ⟨S1x256, .f32⟩
  | 32 => ⟨S1x256, .f32⟩
  | 33 => ⟨S256, .f32⟩
  | 34 => ⟨S1x256, .f32⟩
  | 35 => ⟨S1x256, .f32⟩
  | 36 => ⟨S256, .f32⟩
  | 37 => ⟨S1x256, .f32⟩
  | 38 => ⟨S1x256x1024, .f32⟩
  | 39 => ⟨S256x1024, .f32⟩
  | 40 => ⟨S1x1024, .f32⟩
  | 41 => ⟨S1024, .f32⟩
  | 42 => ⟨S1x1024, .f32⟩
  | 43 => ⟨S1x1024x256, .f32⟩
  | 44 => ⟨S1024x256, .f32⟩
  | 45 => ⟨S1x256, .f32⟩
  | 46 => ⟨S256, .f32⟩
  | 47 => ⟨S1x256, .f32⟩
  | 48 => ⟨S4096x256, .f32⟩
  | 49 => ⟨S1x256, .f32⟩
  | 50 => ⟨S256, .f32⟩
  | 51 => ⟨S1x256, .f32⟩
  | 52 => ⟨S1x256, .f32⟩
  | 53 => ⟨S256, .f32⟩
  | 54 => ⟨S1x256, .f32⟩
  | 55 => ⟨S1x256x768, .f32⟩
  | 56 => ⟨S256x768, .f32⟩
  | 57 => ⟨S4096x256, .f32⟩
  | 58 => ⟨S4096x256, .f32⟩
  | 59 => ⟨S4096x256, .f32⟩
  | 60 => ⟨S1x256x256, .f32⟩
  | 61 => ⟨S256x256, .f32⟩
  | 62 => ⟨S1x256, .f32⟩
  | 63 => ⟨S256, .f32⟩
  | 64 => ⟨S1x256, .f32⟩
  | 65 => ⟨S1x256, .f32⟩
  | 66 => ⟨S256, .f32⟩
  | 67 => ⟨S1x256, .f32⟩
  | 68 => ⟨S1x256, .f32⟩
  | 69 => ⟨S256, .f32⟩
  | 70 => ⟨S1x256, .f32⟩
  | 71 => ⟨S1x256x1024, .f32⟩
  | 72 => ⟨S256x1024, .f32⟩
  | 73 => ⟨S1x1024, .f32⟩
  | 74 => ⟨S1024, .f32⟩
  | 75 => ⟨S1x1024, .f32⟩
  | 76 => ⟨S1x1024x256, .f32⟩
  | 77 => ⟨S1024x256, .f32⟩
  | 78 => ⟨S1x256, .f32⟩
  | 79 => ⟨S256, .f32⟩
  | 80 => ⟨S1x256, .f32⟩
  | 81 => ⟨S4096x256, .f32⟩
  | 82 => ⟨S1x256, .f32⟩
  | 83 => ⟨S256, .f32⟩
  | 84 => ⟨S1x256, .f32⟩
  | 85 => ⟨S1x256, .f32⟩
  | 86 => ⟨S256, .f32⟩
  | 87 => ⟨S1x256, .f32⟩
  | 88 => ⟨S1x256x768, .f32⟩
  | 89 => ⟨S256x768, .f32⟩
  | 90 => ⟨S4096x256, .f32⟩
  | 91 => ⟨S4096x256, .f32⟩
  | 92 => ⟨S4096x256, .f32⟩
  | 93 => ⟨S1x256x256, .f32⟩
  | 94 => ⟨S256x256, .f32⟩
  | 95 => ⟨S1x256, .f32⟩
  | 96 => ⟨S256, .f32⟩
  | 97 => ⟨S1x256, .f32⟩
  | 98 => ⟨S1x256, .f32⟩
  | 99 => ⟨S256, .f32⟩
  | 100 => ⟨S1x256, .f32⟩
  | 101 => ⟨S1x256, .f32⟩
  | 102 => ⟨S256, .f32⟩
  | 103 => ⟨S1x256, .f32⟩
  | 104 => ⟨S1x256x1024, .f32⟩
  | 105 => ⟨S256x1024, .f32⟩
  | 106 => ⟨S1x1024, .f32⟩
  | 107 => ⟨S1024, .f32⟩
  | 108 => ⟨S1x1024, .f32⟩
  | 109 => ⟨S1x1024x256, .f32⟩
  | 110 => ⟨S1024x256, .f32⟩
  | 111 => ⟨S1x256, .f32⟩
  | 112 => ⟨S256, .f32⟩
  | 113 => ⟨S1x256, .f32⟩
  | 114 => ⟨S4096x256, .f32⟩
  | 115 => ⟨S1x256, .f32⟩
  | 116 => ⟨S256, .f32⟩
  | 117 => ⟨S1x256, .f32⟩
  | 118 => ⟨S1x256, .f32⟩
  | 119 => ⟨S256, .f32⟩
  | 120 => ⟨S1x256, .f32⟩
  | 121 => ⟨S1x256x768, .f32⟩
  | 122 => ⟨S256x768, .f32⟩
  | 123 => ⟨S4096x256, .f32⟩
  | 124 => ⟨S4096x256, .f32⟩
  | 125 => ⟨S4096x256, .f32⟩
  | 126 => ⟨S1x256x256, .f32⟩
  | 127 => ⟨S256x256, .f32⟩
  | _ => ⟨S4096x3, .f32⟩

abbrev hbmTy0_1 (i : Nat) : BufTy := match i % 128 with
  | 0 => ⟨S1x256, .f32⟩
  | 1 => ⟨S256, .f32⟩
  | 2 => ⟨S1x256, .f32⟩
  | 3 => ⟨S1x256, .f32⟩
  | 4 => ⟨S256, .f32⟩
  | 5 => ⟨S1x256, .f32⟩
  | 6 => ⟨S1x256, .f32⟩
  | 7 => ⟨S256, .f32⟩
  | 8 => ⟨S1x256, .f32⟩
  | 9 => ⟨S1x256x1024, .f32⟩
  | 10 => ⟨S256x1024, .f32⟩
  | 11 => ⟨S1x1024, .f32⟩
  | 12 => ⟨S1024, .f32⟩
  | 13 => ⟨S1x1024, .f32⟩
  | 14 => ⟨S1x1024x256, .f32⟩
  | 15 => ⟨S1024x256, .f32⟩
  | 16 => ⟨S1x256, .f32⟩
  | 17 => ⟨S256, .f32⟩
  | 18 => ⟨S1x256, .f32⟩
  | 19 => ⟨S4096x256, .f32⟩
  | _ => ⟨S4096x3, .f32⟩

abbrev hbmTy (i : Nat) : BufTy := match i / 128 with
  | 0 => hbmTy0_0 i
  | 1 => hbmTy0_1 i
  | _ => ⟨S4096x3, .f32⟩

abbrev bufTy : (tb : Table) → Fin (tcTables nBuf tb) → BufTy
  | .hbm, ⟨i, _⟩ => hbmTy i
  | .local _ .vmem, ⟨0, _⟩ => ⟨S256x3, .f32⟩
  | .local _ .vmem, ⟨1, _⟩ => ⟨S256x3, .f32⟩
  | .local _ .vmem, ⟨2, _⟩ => ⟨S3x4096, .f32⟩
  | .local _ .vmem, ⟨3, _⟩ => ⟨S256x4096, .i8⟩
  | .local _ .vmem, ⟨4, _⟩ => ⟨S256x4096, .i8⟩
  | .local _ .vmem, ⟨5, _⟩ => ⟨S256x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S256x768, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S4096x256, .f32⟩
  | .local _ .vmem, ⟨19, _⟩ => ⟨S4096x256, .f32⟩
  | .local _ .vmem, ⟨20, _⟩ => ⟨S256x4096, .i8⟩
  | .local _ .vmem, ⟨21, _⟩ => ⟨S256x4096, .i8⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S256x1024, .f32⟩
  | .local _ .vmem, ⟨29, _⟩ => ⟨S1x1024, .f32⟩
  | .local _ .vmem, ⟨30, _⟩ => ⟨S1024x256, .f32⟩
  | .local _ .vmem, ⟨31, _⟩ => ⟨S1x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S1x256, .f32⟩
  | .local _ .vmem, ⟨37, _⟩ => ⟨S1x256, .f32⟩
  | .local _ .vmem, ⟨38, _⟩ => ⟨S256x768, .f32⟩
  | .local _ .vmem, ⟨39, _⟩ => ⟨S256x256, .f32⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S256x256, .f32⟩
  | .local _ .vmem, ⟨44, _⟩ => ⟨S256x256, .f32⟩
  | .local _ .vmem, ⟨45, _⟩ => ⟨S256x256, .f32⟩
  | .local _ .vmem, ⟨46, _⟩ => ⟨S256x256, .f32⟩
  | .local _ .vmem, ⟨47, _⟩ => ⟨S4096x256, .f32⟩
  | .local _ .vmem, ⟨48, _⟩ => ⟨S4096x256, .f32⟩
  | .local _ .vmem, ⟨49, _⟩ => ⟨S256x4096, .i8⟩
  | .local _ .vmem, ⟨50, _⟩ => ⟨S256x4096, .i8⟩
  | .local _ .vmem, ⟨51, _⟩ => ⟨S256x256, .f32⟩
  | .local _ .vmem, ⟨52, _⟩ => ⟨S256x256, .f32⟩
  | .local _ .vmem, ⟨53, _⟩ => ⟨S256x256, .f32⟩
  | .local _ .vmem, ⟨54, _⟩ => ⟨S1x256, .f32⟩
  | .local _ .vmem, ⟨55, _⟩ => ⟨S1x256, .f32⟩
  | .local _ .vmem, ⟨56, _⟩ => ⟨S1x256, .f32⟩
  | .local _ .vmem, ⟨57, _⟩ => ⟨S256x1024, .f32⟩
  | .local _ .vmem, ⟨58, _⟩ => ⟨S1x1024, .f32⟩
  | .local _ .vmem, ⟨59, _⟩ => ⟨S1024x256, .f32⟩
  | .local _ .vmem, ⟨60, _⟩ => ⟨S1x256, .f32⟩
  | .local _ .vmem, ⟨61, _⟩ => ⟨S256x256, .f32⟩
  | .local _ .vmem, ⟨62, _⟩ => ⟨S256x256, .f32⟩
  | .local _ .vmem, ⟨63, _⟩ => ⟨S256x256, .f32⟩
  | .local _ .vmem, ⟨64, _⟩ => ⟨S256x256, .f32⟩
  | .local _ .vmem, ⟨65, _⟩ => ⟨S1x256, .f32⟩
  | .local _ .vmem, ⟨66, _⟩ => ⟨S1x256, .f32⟩
  | .local _ .vmem, ⟨67, _⟩ => ⟨S256x768, .f32⟩
  | .local _ .vmem, ⟨68, _⟩ => ⟨S256x256, .f32⟩
  | .local _ .vmem, ⟨69, _⟩ => ⟨S256x256, .f32⟩
  | .local _ .vmem, ⟨70, _⟩ => ⟨S256x256, .f32⟩
  | .local _ .vmem, ⟨71, _⟩ => ⟨S256x256, .f32⟩
  | .local _ .vmem, ⟨72, _⟩ => ⟨S256x256, .f32⟩
  | .local _ .vmem, ⟨73, _⟩ => ⟨S256x256, .f32⟩
  | .local _ .vmem, ⟨74, _⟩ => ⟨S256x256, .f32⟩
  | .local _ .vmem, ⟨75, _⟩ => ⟨S256x256, .f32⟩
  | .local _ .vmem, ⟨76, _⟩ => ⟨S4096x256, .f32⟩
  | .local _ .vmem, ⟨77, _⟩ => ⟨S4096x256, .f32⟩
  | .local _ .vmem, ⟨78, _⟩ => ⟨S256x4096, .i8⟩
  | .local _ .vmem, ⟨79, _⟩ => ⟨S256x4096, .i8⟩
  | .local _ .vmem, ⟨80, _⟩ => ⟨S256x256, .f32⟩
  | .local _ .vmem, ⟨81, _⟩ => ⟨S256x256, .f32⟩
  | .local _ .vmem, ⟨82, _⟩ => ⟨S256x256, .f32⟩
  | .local _ .vmem, ⟨83, _⟩ => ⟨S1x256, .f32⟩
  | .local _ .vmem, ⟨84, _⟩ => ⟨S1x256, .f32⟩
  | .local _ .vmem, ⟨85, _⟩ => ⟨S1x256, .f32⟩
  | .local _ .vmem, ⟨86, _⟩ => ⟨S256x1024, .f32⟩
  | .local _ .vmem, ⟨87, _⟩ => ⟨S1x1024, .f32⟩
  | .local _ .vmem, ⟨88, _⟩ => ⟨S1024x256, .f32⟩
  | .local _ .vmem, ⟨89, _⟩ => ⟨S1x256, .f32⟩
  | .local _ .vmem, ⟨90, _⟩ => ⟨S256x256, .f32⟩
  | .local _ .vmem, ⟨91, _⟩ => ⟨S256x256, .f32⟩
  | .local _ .vmem, ⟨92, _⟩ => ⟨S256x256, .f32⟩
  | .local _ .vmem, ⟨93, _⟩ => ⟨S256x256, .f32⟩
  | .local _ .vmem, ⟨94, _⟩ => ⟨S1x256, .f32⟩
  | .local _ .vmem, ⟨95, _⟩ => ⟨S1x256, .f32⟩
  | .local _ .vmem, ⟨96, _⟩ => ⟨S256x768, .f32⟩
  | .local _ .vmem, ⟨97, _⟩ => ⟨S256x256, .f32⟩
  | .local _ .vmem, ⟨98, _⟩ => ⟨S256x256, .f32⟩
  | .local _ .vmem, ⟨99, _⟩ => ⟨S256x256, .f32⟩
  | .local _ .vmem, ⟨100, _⟩ => ⟨S256x256, .f32⟩
  | .local _ .vmem, ⟨101, _⟩ => ⟨S256x256, .f32⟩
  | .local _ .vmem, ⟨102, _⟩ => ⟨S256x256, .f32⟩
  | .local _ .vmem, ⟨103, _⟩ => ⟨S256x256, .f32⟩
  | .local _ .vmem, ⟨104, _⟩ => ⟨S256x256, .f32⟩
  | .local _ .vmem, ⟨105, _⟩ => ⟨S4096x256, .f32⟩
  | .local _ .vmem, ⟨106, _⟩ => ⟨S4096x256, .f32⟩
  | .local _ .vmem, ⟨107, _⟩ => ⟨S256x4096, .i8⟩
  | .local _ .vmem, ⟨108, _⟩ => ⟨S256x4096, .i8⟩
  | .local _ .vmem, ⟨109, _⟩ => ⟨S256x256, .f32⟩
  | .local _ .vmem, ⟨110, _⟩ => ⟨S256x256, .f32⟩
  | .local _ .vmem, ⟨111, _⟩ => ⟨S256x256, .f32⟩
  | .local _ .vmem, ⟨112, _⟩ => ⟨S1x256, .f32⟩
  | .local _ .vmem, ⟨113, _⟩ => ⟨S1x256, .f32⟩
  | .local _ .vmem, ⟨114, _⟩ => ⟨S1x256, .f32⟩
  | .local _ .vmem, ⟨115, _⟩ => ⟨S256x1024, .f32⟩
  | .local _ .vmem, ⟨116, _⟩ => ⟨S1x1024, .f32⟩
  | .local _ .vmem, ⟨117, _⟩ => ⟨S1024x256, .f32⟩
  | .local _ .vmem, ⟨118, _⟩ => ⟨S1x256, .f32⟩
  | .local _ .vmem, ⟨119, _⟩ => ⟨S256x256, .f32⟩
  | .local _ .vmem, ⟨120, _⟩ => ⟨S256x256, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | _, _ => false

abbrev semScoped : Fin 0 → Bool
  | ⟨_, h⟩ => absurd h (Nat.not_lt_zero _)

abbrev dmaSemScoped : Fin 121 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | _ => false

abbrev sig : RefSig :=
  ofTc nBuf bufTy 0 121 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41_0 : Ref sig .tc := ⟨.hbm, 57, rfl⟩
abbrev main_v41_1 : Ref sig .tc := ⟨.hbm, 58, rfl⟩
abbrev main_v41_2 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72_0 : Ref sig .tc := ⟨.hbm, 90, rfl⟩
abbrev main_v72_1 : Ref sig .tc := ⟨.hbm, 91, rfl⟩
abbrev main_v72_2 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103_0 : Ref sig .tc := ⟨.hbm, 123, rfl⟩
abbrev main_v103_1 : Ref sig .tc := ⟨.hbm, 124, rfl⟩
abbrev main_v103_2 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg12_0 : Ref sig .tc := ⟨.vmem, 31, rfl⟩
abbrev cc2_stg13_0 : Ref sig .tc := ⟨.vmem, 32, rfl⟩
abbrev cc2_stg13_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg4_1 : Ref sig .tc := ⟨.vmem, 40, rfl⟩
abbrev cc3_stg5_0 : Ref sig .tc := ⟨.vmem, 41, rfl⟩
abbrev cc3_stg5_1 : Ref sig .tc := ⟨.vmem, 42, rfl⟩
abbrev cc3_stg6_0 : Ref sig .tc := ⟨.vmem, 43, rfl⟩
abbrev cc3_stg6_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg3_1 : Ref sig .tc := ⟨.vmem, 50, rfl⟩
abbrev cc4_stg4_0 : Ref sig .tc := ⟨.vmem, 51, rfl⟩
abbrev cc4_stg4_1 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_stg8_0 : Ref sig .tc := ⟨.vmem, 56, rfl⟩
abbrev cc4_stg9_0 : Ref sig .tc := ⟨.vmem, 57, rfl⟩
abbrev cc4_stg10_0 : Ref sig .tc := ⟨.vmem, 58, rfl⟩
abbrev cc4_stg11_0 : Ref sig .tc := ⟨.vmem, 59, rfl⟩
abbrev cc4_stg12_0 : Ref sig .tc := ⟨.vmem, 60, rfl⟩
abbrev cc4_stg13_0 : Ref sig .tc := ⟨.vmem, 61, rfl⟩
abbrev cc4_stg13_1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg4_1 : Ref sig .tc := ⟨.vmem, 69, rfl⟩
abbrev cc5_stg5_0 : Ref sig .tc := ⟨.vmem, 70, rfl⟩
abbrev cc5_stg5_1 : Ref sig .tc := ⟨.vmem, 71, rfl⟩
abbrev cc5_stg6_0 : Ref sig .tc := ⟨.vmem, 72, rfl⟩
abbrev cc5_stg6_1 : Ref sig .tc := ⟨.vmem, 73, rfl⟩
abbrev cc6_stg0_0 : Ref sig .tc := ⟨.vmem, 74, rfl⟩
abbrev cc6_stg0_1 : Ref sig .tc := ⟨.vmem, 75, rfl⟩
abbrev cc6_stg1_0 : Ref sig .tc := ⟨.vmem, 76, rfl⟩
abbrev cc6_stg2_0 : Ref sig .tc := ⟨.vmem, 77, rfl⟩
abbrev cc6_stg3_0 : Ref sig .tc := ⟨.vmem, 78, rfl⟩
abbrev cc6_stg3_1 : Ref sig .tc := ⟨.vmem, 79, rfl⟩
abbrev cc6_stg4_0 : Ref sig .tc := ⟨.vmem, 80, rfl⟩
abbrev cc6_stg4_1 : Ref sig .tc := ⟨.vmem, 81, rfl⟩
abbrev cc6_stg5_0 : Ref sig .tc := ⟨.vmem, 82, rfl⟩
abbrev cc6_stg6_0 : Ref sig .tc := ⟨.vmem, 83, rfl⟩
abbrev cc6_stg7_0 : Ref sig .tc := ⟨.vmem, 84, rfl⟩
abbrev cc6_stg8_0 : Ref sig .tc := ⟨.vmem, 85, rfl⟩
abbrev cc6_stg9_0 : Ref sig .tc := ⟨.vmem, 86, rfl⟩
abbrev cc6_stg10_0 : Ref sig .tc := ⟨.vmem, 87, rfl⟩
abbrev cc6_stg11_0 : Ref sig .tc := ⟨.vmem, 88, rfl⟩
abbrev cc6_stg12_0 : Ref sig .tc := ⟨.vmem, 89, rfl⟩
abbrev cc6_stg13_0 : Ref sig .tc := ⟨.vmem, 90, rfl⟩
abbrev cc6_stg13_1 : Ref sig .tc := ⟨.vmem, 91, rfl⟩
abbrev cc7_stg0_0 : Ref sig .tc := ⟨.vmem, 92, rfl⟩
abbrev cc7_stg0_1 : Ref sig .tc := ⟨.vmem, 93, rfl⟩
abbrev cc7_stg1_0 : Ref sig .tc := ⟨.vmem, 94, rfl⟩
abbrev cc7_stg2_0 : Ref sig .tc := ⟨.vmem, 95, rfl⟩
abbrev cc7_stg3_0 : Ref sig .tc := ⟨.vmem, 96, rfl⟩
abbrev cc7_stg4_0 : Ref sig .tc := ⟨.vmem, 97, rfl⟩
abbrev cc7_stg4_1 : Ref sig .tc := ⟨.vmem, 98, rfl⟩
abbrev cc7_stg5_0 : Ref sig .tc := ⟨.vmem, 99, rfl⟩
abbrev cc7_stg5_1 : Ref sig .tc := ⟨.vmem, 100, rfl⟩
abbrev cc7_stg6_0 : Ref sig .tc := ⟨.vmem, 101, rfl⟩
abbrev cc7_stg6_1 : Ref sig .tc := ⟨.vmem, 102, rfl⟩
abbrev cc8_stg0_0 : Ref sig .tc := ⟨.vmem, 103, rfl⟩
abbrev cc8_stg0_1 : Ref sig .tc := ⟨.vmem, 104, rfl⟩
abbrev cc8_stg1_0 : Ref sig .tc := ⟨.vmem, 105, rfl⟩
abbrev cc8_stg2_0 : Ref sig .tc := ⟨.vmem, 106, rfl⟩
abbrev cc8_stg3_0 : Ref sig .tc := ⟨.vmem, 107, rfl⟩
abbrev cc8_stg3_1 : Ref sig .tc := ⟨.vmem, 108, rfl⟩
abbrev cc8_stg4_0 : Ref sig .tc := ⟨.vmem, 109, rfl⟩
abbrev cc8_stg4_1 : Ref sig .tc := ⟨.vmem, 110, rfl⟩
abbrev cc8_stg5_0 : Ref sig .tc := ⟨.vmem, 111, rfl⟩
abbrev cc8_stg6_0 : Ref sig .tc := ⟨.vmem, 112, rfl⟩
abbrev cc8_stg7_0 : Ref sig .tc := ⟨.vmem, 113, rfl⟩
abbrev cc8_stg8_0 : Ref sig .tc := ⟨.vmem, 114, rfl⟩
abbrev cc8_stg9_0 : Ref sig .tc := ⟨.vmem, 115, rfl⟩
abbrev cc8_stg10_0 : Ref sig .tc := ⟨.vmem, 116, rfl⟩
abbrev cc8_stg11_0 : Ref sig .tc := ⟨.vmem, 117, rfl⟩
abbrev cc8_stg12_0 : Ref sig .tc := ⟨.vmem, 118, rfl⟩
abbrev cc8_stg13_0 : Ref sig .tc := ⟨.vmem, 119, rfl⟩
abbrev cc8_stg13_1 : Ref sig .tc := ⟨.vmem, 120, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem13_0 : DmaSem sig := 32
abbrev cc2_sem13_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem4_1 : DmaSem sig := 40
abbrev cc3_sem5_0 : DmaSem sig := 41
abbrev cc3_sem5_1 : DmaSem sig := 42
abbrev cc3_sem6_0 : DmaSem sig := 43
abbrev cc3_sem6_1 : DmaSem sig := 44
abbrev cc4_sem0_0 : DmaSem sig := 45
abbrev cc4_sem0_1 : DmaSem sig := 46
abbrev cc4_sem1_0 : DmaSem sig := 47
abbrev cc4_sem2_0 : DmaSem sig := 48
abbrev cc4_sem3_0 : DmaSem sig := 49
abbrev cc4_sem3_1 : DmaSem sig := 50
abbrev cc4_sem4_0 : DmaSem sig := 51
abbrev cc4_sem4_1 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem9_0 : DmaSem sig := 57
abbrev cc4_sem10_0 : DmaSem sig := 58
abbrev cc4_sem11_0 : DmaSem sig := 59
abbrev cc4_sem12_0 : DmaSem sig := 60
abbrev cc4_sem13_0 : DmaSem sig := 61
abbrev cc4_sem13_1 : DmaSem sig := 62
abbrev cc5_sem0_0 : DmaSem sig := 63
abbrev cc5_sem0_1 : DmaSem sig := 64
abbrev cc5_sem1_0 : DmaSem sig := 65
abbrev cc5_sem2_0 : DmaSem sig := 66
abbrev cc5_sem3_0 : DmaSem sig := 67
abbrev cc5_sem4_0 : DmaSem sig := 68
abbrev cc5_sem4_1 : DmaSem sig := 69
abbrev cc5_sem5_0 : DmaSem sig := 70
abbrev cc5_sem5_1 : DmaSem sig := 71
abbrev cc5_sem6_0 : DmaSem sig := 72
abbrev cc5_sem6_1 : DmaSem sig := 73
abbrev cc6_sem0_0 : DmaSem sig := 74
abbrev cc6_sem0_1 : DmaSem sig := 75
abbrev cc6_sem1_0 : DmaSem sig := 76
abbrev cc6_sem2_0 : DmaSem sig := 77
abbrev cc6_sem3_0 : DmaSem sig := 78
abbrev cc6_sem3_1 : DmaSem sig := 79
abbrev cc6_sem4_0 : DmaSem sig := 80
abbrev cc6_sem4_1 : DmaSem sig := 81
abbrev cc6_sem5_0 : DmaSem sig := 82
abbrev cc6_sem6_0 : DmaSem sig := 83
abbrev cc6_sem7_0 : DmaSem sig := 84
abbrev cc6_sem8_0 : DmaSem sig := 85
abbrev cc6_sem9_0 : DmaSem sig := 86
abbrev cc6_sem10_0 : DmaSem sig := 87
abbrev cc6_sem11_0 : DmaSem sig := 88
abbrev cc6_sem12_0 : DmaSem sig := 89
abbrev cc6_sem13_0 : DmaSem sig := 90
abbrev cc6_sem13_1 : DmaSem sig := 91
abbrev cc7_sem0_0 : DmaSem sig := 92
abbrev cc7_sem0_1 : DmaSem sig := 93
abbrev cc7_sem1_0 : DmaSem sig := 94
abbrev cc7_sem2_0 : DmaSem sig := 95
abbrev cc7_sem3_0 : DmaSem sig := 96
abbrev cc7_sem4_0 : DmaSem sig := 97
abbrev cc7_sem4_1 : DmaSem sig := 98
abbrev cc7_sem5_0 : DmaSem sig := 99
abbrev cc7_sem5_1 : DmaSem sig := 100
abbrev cc7_sem6_0 : DmaSem sig := 101
abbrev cc7_sem6_1 : DmaSem sig := 102
abbrev cc8_sem0_0 : DmaSem sig := 103
abbrev cc8_sem0_1 : DmaSem sig := 104
abbrev cc8_sem1_0 : DmaSem sig := 105
abbrev cc8_sem2_0 : DmaSem sig := 106
abbrev cc8_sem3_0 : DmaSem sig := 107
abbrev cc8_sem3_1 : DmaSem sig := 108
abbrev cc8_sem4_0 : DmaSem sig := 109
abbrev cc8_sem4_1 : DmaSem sig := 110
abbrev cc8_sem5_0 : DmaSem sig := 111
abbrev cc8_sem6_0 : DmaSem sig := 112
abbrev cc8_sem7_0 : DmaSem sig := 113
abbrev cc8_sem8_0 : DmaSem sig := 114
abbrev cc8_sem9_0 : DmaSem sig := 115
abbrev cc8_sem10_0 : DmaSem sig := 116
abbrev cc8_sem11_0 : DmaSem sig := 117
abbrev cc8_sem12_0 : DmaSem sig := 118
abbrev cc8_sem13_0 : DmaSem sig := 119
abbrev cc8_sem13_1 : DmaSem sig := 120

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x4096 .i8 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S256x256 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S4096x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x4096 .i8 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S256x1024 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x1024 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1024x256 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x256 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 2 → Memref sig .tc .vmem S256x256 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x768 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S256x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4096x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S4096x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S256x4096 .i8 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S256x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x256 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S256x1024 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x1024 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S1024x256 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S1x256 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 2 → Memref sig .tc .vmem S256x256 .f32 := fun | 0 => Memref.whole cc6_stg13_0 | 1 => Memref.whole cc6_stg13_1 | ⟨_ + 2, h⟩ => absurd h (Nat.not_lt.2 (Nat.le_add_left _ _))
abbrev sem6_13 : Fin 2 → DmaSem sig := fun | 0 => cc6_sem13_0 | 1 => cc6_sem13_1 | ⟨_ + 2, h⟩ => absurd h (Nat.not_lt.2 (Nat.le_add_left _ _))
abbrev reads6_13 : Fin grid6.rank → Bool := ![true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x768 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S256x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S256x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S256x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S256x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S4096x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S4096x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S256x4096 .i8 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S256x256 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S256x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x256 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x256 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S256x1024 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x1024 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1024x256 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S1x256 .f32 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 2 → Memref sig .tc .vmem S256x256 .f32 := fun | 0 => Memref.whole cc8_stg13_0 | 1 => Memref.whole cc8_stg13_1 | ⟨_ + 2, h⟩ => absurd h (Nat.not_lt.2 (Nat.le_add_left _ _))
abbrev sem8_13 : Fin 2 → DmaSem sig := fun | 0 => cc8_sem13_0 | 1 => cc8_sem13_1 | ⟨_ + 2, h⟩ => absurd h (Nat.not_lt.2 (Nat.le_add_left _ _))
abbrev reads8_13 : Fin grid8.rank → Bool := ![true]
-- ==== KernelIdeal.lean ====
variable {F : FTy → Type} [FloatOps F] [Named F]
def κ : String → Option EReal := fun
  | "mask" => some ⊥
  | _ => none
-- ==== ReferenceIdeal.lean ====
abbrev S4096x3 : Shape := ⟨2, ![4096, 3]⟩
abbrev S4096x256 : Shape := ⟨2, ![4096, 256]⟩
abbrev S4x256 : Shape := ⟨2, ![4, 256]⟩
abbrev S4x256x768 : Shape := ⟨3, ![4, 256, 768]⟩
abbrev S4x256x256 : Shape := ⟨3, ![4, 256, 256]⟩
abbrev S4x256x1024 : Shape := ⟨3, ![4, 256, 1024]⟩
abbrev S4x1024 : Shape := ⟨2, ![4, 1024]⟩
abbrev S4x1024x256 : Shape := ⟨3, ![4, 1024, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S3x4096 : Shape := ⟨2, ![3, 4096]⟩
abbrev S4096x16 : Shape := ⟨2, ![4096, 16]⟩
abbrev S1x256 : Shape := ⟨2, ![1, 256]⟩
abbrev S256 : Shape := ⟨1, ![256]⟩
abbrev S1x256x768 : Shape := ⟨3, ![1, 256, 768]⟩
abbrev S256x768 : Shape := ⟨2, ![256, 768]⟩
abbrev S4096x768 : Shape := ⟨2, ![4096, 768]⟩
abbrev S4096x16x1 : Shape := ⟨3, ![4096, 16, 1]⟩
abbrev S4096x16x256 : Shape := ⟨3, ![4096, 16, 256]⟩
abbrev S1x256x256 : Shape := ⟨3, ![1, 256, 256]⟩
abbrev S256x256 : Shape := ⟨2, ![256, 256]⟩
abbrev S1x256x1024 : Shape := ⟨3, ![1, 256, 1024]⟩
abbrev S256x1024 : Shape := ⟨2, ![256, 1024]⟩
abbrev S4096x1024 : Shape := ⟨2, ![4096, 1024]⟩
abbrev S1x1024 : Shape := ⟨2, ![1, 1024]⟩
abbrev S1024 : Shape := ⟨1, ![1024]⟩
abbrev S1x1024x256 : Shape := ⟨3, ![1, 1024, 256]⟩
abbrev S1024x256 : Shape := ⟨2, ![1024, 256]⟩

abbrev nBuf : Space → Nat
  | .hbm => 607
  | .vmem => 0
  | .smem => 0
  | _ => 0

abbrev hbmTy0_0 (i : Nat) : BufTy := match i % 128 with
  | 0 => ⟨S4096x3, .f32⟩
  | 1 => ⟨S4096x256, .f32⟩
  | 2 => ⟨S4x256, .f32⟩
  | 3 => ⟨S4x256, .f32⟩
  | 4 => ⟨S4x256x768, .f32⟩
  | 5 => ⟨S4x256x256, .f32⟩
  | 6 => ⟨S4x256, .f32⟩
  | 7 => ⟨S4x256, .f32⟩
  | 8 => ⟨S4x256, .f32⟩
  | 9 => ⟨S4x256x1024, .f32⟩
  | 10 => ⟨S4x1024, .f32⟩
  | 11 => ⟨S4x1024x256, .f32⟩
  | 12 => ⟨S4x256, .f32⟩
  | 13 => ⟨S_, .i32⟩
  | 14 => ⟨S4096x3, .f32⟩
  | 15 => ⟨S_, .f32⟩
  | 16 => ⟨S4096, .f32⟩
  | 17 => ⟨S4096x1, .f32⟩
  | 18 => ⟨S1x4096, .f32⟩
  | 19 => ⟨S4096x4096, .f32⟩
  | 20 => ⟨S4096x4096, .f32⟩
  | 21 => ⟨S4096x4096, .f32⟩
  | 22 => ⟨S3x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S4096x4096, .f32⟩
  | 29 => ⟨S4096x16, .f32⟩
  | 30 => ⟨S4096x16, .i32⟩
  | 31 => ⟨S1x256, .f32⟩
  | 32 => ⟨S256, .f32⟩
  | 33 => ⟨S1x256, .f32⟩
  | 34 => ⟨S256, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S4096x256, .f32⟩
  | 42 => ⟨S4096x256, .f32⟩
  | 43 => ⟨S4096x256, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S4096x256, .f32⟩
  | 51 => ⟨S4096x256, .f32⟩
  | 52 => ⟨S_, .f32⟩
  | 53 => ⟨S4096x1, .f32⟩
  | 54 => ⟨S4096x1, .f32⟩
  | 55 => ⟨S4096x1, .f32⟩
  | 56 => ⟨S4096x256, .f32⟩
  | 57 => ⟨S4096x256, .f32⟩
  | 58 => ⟨S1x256, .f32⟩
  | 59 => ⟨S4096x256, .f32⟩
  | 60 => ⟨S4096x256, .f32⟩
  | 61 => ⟨S1x256, .f32⟩
  | 62 => ⟨S4096x256, .f32⟩
  | 63 => ⟨S4096x256, .f32⟩
  | 64 => ⟨S1x256x768, .f32⟩
  | 65 => ⟨S256x768, .f32⟩
  | 66 => ⟨S4096x768, .f32⟩
  | 67 => ⟨S4096x256, .f32⟩
  | 68 => ⟨S4096x256, .f32⟩
  | 69 => ⟨S4096x256, .f32⟩
  | 70 => ⟨S_, .i32⟩
  | 71 => ⟨S4096x16, .i32⟩
  | 72 => ⟨S4096x16, .i1⟩
  | 73 => ⟨S_, .i32⟩
  | 74 => ⟨S4096x16, .i32⟩
  | 75 => ⟨S4096x16, .i32⟩
  | 76 => ⟨S4096x16, .i32⟩
  | 77 => ⟨S4096x16x1, .i32⟩
  | 78 => ⟨S4096x16x256, .f32⟩
  | 79 => ⟨S_, .i32⟩
  | 80 => ⟨S4096x16, .i32⟩
  | 81 => ⟨S4096x16, .i1⟩
  | 82 => ⟨S_, .i32⟩
  | 83 => ⟨S4096x16, .i32⟩
  | 84 => ⟨S4096x16, .i32⟩
  | 85 => ⟨S4096x16, .i32⟩
  | 86 => ⟨S4096x16x1, .i32⟩
  | 87 => ⟨S4096x16x256, .f32⟩
  | 88 => ⟨S4096x16, .f32⟩
  | 89 => ⟨S_, .f32⟩
  | 90 => ⟨S4096x16, .f32⟩
  | 91 => ⟨S4096x16, .f32⟩
  | 92 => ⟨S_, .f32⟩
  | 93 => ⟨S4096, .f32⟩
  | 94 => ⟨S_, .f32⟩
  | 95 => ⟨S4096, .f32⟩
  | 96 => ⟨S4096, .f32⟩
  | 97 => ⟨S4096x1, .f32⟩
  | 98 => ⟨S4096x16, .f32⟩
  | 99 => ⟨S4096x16, .f32⟩
  | 100 => ⟨S4096x16, .f32⟩
  | 101 => ⟨S_, .f32⟩
  | 102 => ⟨S4096, .f32⟩
  | 103 => ⟨S4096x1, .f32⟩
  | 104 => ⟨S4096x16, .f32⟩
  | 105 => ⟨S4096x16, .f32⟩
  | 106 => ⟨S4096x256, .f32⟩
  | 107 => ⟨S1x256x256, .f32⟩
  | 108 => ⟨S256x256, .f32⟩
  | 109 => ⟨S4096x256, .f32⟩
  | 110 => ⟨S1x256, .f32⟩
  | 111 => ⟨S256, .f32⟩
  | 112 => ⟨S1x256, .f32⟩
  | 113 => ⟨S4096x256, .f32⟩
  | 114 => ⟨S4096x256, .f32⟩
  | 115 => ⟨S4096x256, .f32⟩
  | 116 => ⟨S1x256, .f32⟩
  | 117 => ⟨S256, .f32⟩
  | 118 => ⟨S1x256, .f32⟩
  | 119 => ⟨S256, .f32⟩
  | 120 => ⟨S_, .f32⟩
  | 121 => ⟨S4096, .f32⟩
  | 122 => ⟨S4096x1, .f32⟩
  | 123 => ⟨S_, .f32⟩
  | 124 => ⟨S4096x1, .f32⟩
  | 125 => ⟨S4096x1, .f32⟩
  | 126 => ⟨S4096x256, .f32⟩
  | 127 => ⟨S4096x256, .f32⟩
  | _ => ⟨S4096x3, .f32⟩

abbrev hbmTy0_1 (i : Nat) : BufTy := match i % 128 with
  | 0 => ⟨S4096x256, .f32⟩
  | 1 => ⟨S_, .f32⟩
  | 2 => ⟨S4096, .f32⟩
  | 3 => ⟨S4096x1, .f32⟩
  | 4 => ⟨S_, .f32⟩
  | 5 => ⟨S4096x1, .f32⟩
  | 6 => ⟨S4096x1, .f32⟩
  | 7 => ⟨S4096x256, .f32⟩
  | 8 => ⟨S4096x256, .f32⟩
  | 9 => ⟨S_, .f32⟩
  | 10 => ⟨S4096x1, .f32⟩
  | 11 => ⟨S4096x1, .f32⟩
  | 12 => ⟨S4096x1, .f32⟩
  | 13 => ⟨S4096x256, .f32⟩
  | 14 => ⟨S4096x256, .f32⟩
  | 15 => ⟨S1x256, .f32⟩
  | 16 => ⟨S4096x256, .f32⟩
  | 17 => ⟨S4096x256, .f32⟩
  | 18 => ⟨S1x256, .f32⟩
  | 19 => ⟨S4096x256, .f32⟩
  | 20 => ⟨S4096x256, .f32⟩
  | 21 => ⟨S1x256x1024, .f32⟩
  | 22 => ⟨S256x1024, .f32⟩
  | 23 => ⟨S4096x1024, .f32⟩
  | 24 => ⟨S1x1024, .f32⟩
  | 25 => ⟨S1024, .f32⟩
  | 26 => ⟨S1x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S1x1024x256, .f32⟩
  | 39 => ⟨S1024x256, .f32⟩
  | 40 => ⟨S4096x256, .f32⟩
  | 41 => ⟨S1x256, .f32⟩
  | 42 => ⟨S256, .f32⟩
  | 43 => ⟨S1x256, .f32⟩
  | 44 => ⟨S4096x256, .f32⟩
  | 45 => ⟨S4096x256, .f32⟩
  | 46 => ⟨S4096x256, .f32⟩
  | 47 => ⟨S1x256, .f32⟩
  | 48 => ⟨S256, .f32⟩
  | 49 => ⟨S1x256, .f32⟩
  | 50 => ⟨S256, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S4096x256, .f32⟩
  | 58 => ⟨S4096x256, .f32⟩
  | 59 => ⟨S4096x256, .f32⟩
  | 60 => ⟨S_, .f32⟩
  | 61 => ⟨S4096, .f32⟩
  | 62 => ⟨S4096x1, .f32⟩
  | 63 => ⟨S_, .f32⟩
  | 64 => ⟨S4096x1, .f32⟩
  | 65 => ⟨S4096x1, .f32⟩
  | 66 => ⟨S4096x256, .f32⟩
  | 67 => ⟨S4096x256, .f32⟩
  | 68 => ⟨S_, .f32⟩
  | 69 => ⟨S4096x1, .f32⟩
  | 70 => ⟨S4096x1, .f32⟩
  | 71 => ⟨S4096x1, .f32⟩
  | 72 => ⟨S4096x256, .f32⟩
  | 73 => ⟨S4096x256, .f32⟩
  | 74 => ⟨S1x256, .f32⟩
  | 75 => ⟨S4096x256, .f32⟩
  | 76 => ⟨S4096x256, .f32⟩
  | 77 => ⟨S1x256, .f32⟩
  | 78 => ⟨S4096x256, .f32⟩
  | 79 => ⟨S4096x256, .f32⟩
  | 80 => ⟨S1x256x768, .f32⟩
  | 81 => ⟨S256x768, .f32⟩
  | 82 => ⟨S4096x768, .f32⟩
  | 83 => ⟨S4096x256, .f32⟩
  | 84 => ⟨S4096x256, .f32⟩
  | 85 => ⟨S4096x256, .f32⟩
  | 86 => ⟨S_, .i32⟩
  | 87 => ⟨S4096x16, .i32⟩
  | 88 => ⟨S4096x16, .i1⟩
  | 89 => ⟨S_, .i32⟩
  | 90 => ⟨S4096x16, .i32⟩
  | 91 => ⟨S4096x16, .i32⟩
  | 92 => ⟨S4096x16, .i32⟩
  | 93 => ⟨S4096x16x1, .i32⟩
  | 94 => ⟨S4096x16x256, .f32⟩
  | 95 => ⟨S_, .i32⟩
  | 96 => ⟨S4096x16, .i32⟩
  | 97 => ⟨S4096x16, .i1⟩
  | 98 => ⟨S_, .i32⟩
  | 99 => ⟨S4096x16, .i32⟩
  | 100 => ⟨S4096x16, .i32⟩
  | 101 => ⟨S4096x16, .i32⟩
  | 102 => ⟨S4096x16x1, .i32⟩
  | 103 => ⟨S4096x16x256, .f32⟩
  | 104 => ⟨S4096x16, .f32⟩
  | 105 => ⟨S_, .f32⟩
  | 106 => ⟨S4096x16, .f32⟩
  | 107 => ⟨S4096x16, .f32⟩
  | 108 => ⟨S_, .f32⟩
  | 109 => ⟨S4096, .f32⟩
  | 110 => ⟨S_, .f32⟩
  | 111 => ⟨S4096, .f32⟩
  | 112 => ⟨S4096, .f32⟩
  | 113 => ⟨S4096x1, .f32⟩
  | 114 => ⟨S4096x16, .f32⟩
  | 115 => ⟨S4096x16, .f32⟩
  | 116 => ⟨S4096x16, .f32⟩
  | 117 => ⟨S_, .f32⟩
  | 118 => ⟨S4096, .f32⟩
  | 119 => ⟨S4096x1, .f32⟩
  | 120 => ⟨S4096x16, .f32⟩
  | 121 => ⟨S4096x16, .f32⟩
  | 122 => ⟨S4096x256, .f32⟩
  | 123 => ⟨S1x256x256, .f32⟩
  | 124 => ⟨S256x256, .f32⟩
  | 125 => ⟨S4096x256, .f32⟩
  | 126 => ⟨S1x256, .f32⟩
  | 127 => ⟨S256, .f32⟩
  | _ => ⟨S4096x3, .f32⟩

abbrev hbmTy0_2 (i : Nat) : BufTy := match i % 128 with
  | 0 => ⟨S1x256, .f32⟩
  | 1 => ⟨S4096x256, .f32⟩
  | 2 => ⟨S4096x256, .f32⟩
  | 3 => ⟨S4096x256, .f32⟩
  | 4 => ⟨S1x256, .f32⟩
  | 5 => ⟨S256, .f32⟩
  | 6 => ⟨S1x256, .f32⟩
  | 7 => ⟨S256, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S4096x256, .f32⟩
  | 15 => ⟨S4096x256, .f32⟩
  | 16 => ⟨S4096x256, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S4096x256, .f32⟩
  | 24 => ⟨S4096x256, .f32⟩
  | 25 => ⟨S_, .f32⟩
  | 26 => ⟨S4096x1, .f32⟩
  | 27 => ⟨S4096x1, .f32⟩
  | 28 => ⟨S4096x1, .f32⟩
  | 29 => ⟨S4096x256, .f32⟩
  | 30 => ⟨S4096x256, .f32⟩
  | 31 => ⟨S1x256, .f32⟩
  | 32 => ⟨S4096x256, .f32⟩
  | 33 => ⟨S4096x256, .f32⟩
  | 34 => ⟨S1x256, .f32⟩
  | 35 => ⟨S4096x256, .f32⟩
  | 36 => ⟨S4096x256, .f32⟩
  | 37 => ⟨S1x256x1024, .f32⟩
  | 38 => ⟨S256x1024, .f32⟩
  | 39 => ⟨S4096x1024, .f32⟩
  | 40 => ⟨S1x1024, .f32⟩
  | 41 => ⟨S1024, .f32⟩
  | 42 => ⟨S1x1024, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S4096x1024, .f32⟩
  | 54 => ⟨S1x1024x256, .f32⟩
  | 55 => ⟨S1024x256, .f32⟩
  | 56 => ⟨S4096x256, .f32⟩
  | 57 => ⟨S1x256, .f32⟩
  | 58 => ⟨S256, .f32⟩
  | 59 => ⟨S1x256, .f32⟩
  | 60 => ⟨S4096x256, .f32⟩
  | 61 => ⟨S4096x256, .f32⟩
  | 62 => ⟨S4096x256, .f32⟩
  | 63 => ⟨S1x256, .f32⟩
  | 64 => ⟨S256, .f32⟩
  | 65 => ⟨S1x256, .f32⟩
  | 66 => ⟨S256, .f32⟩
  | 67 => ⟨S_, .f32⟩
  | 68 => ⟨S4096, .f32⟩
  | 69 => ⟨S4096x1, .f32⟩
  | 70 => ⟨S_, .f32⟩
  | 71 => ⟨S4096x1, .f32⟩
  | 72 => ⟨S4096x1, .f32⟩
  | 73 => ⟨S4096x256, .f32⟩
  | 74 => ⟨S4096x256, .f32⟩
  | 75 => ⟨S4096x256, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S4096x256, .f32⟩
  | 83 => ⟨S4096x256, .f32⟩
  | 84 => ⟨S_, .f32⟩
  | 85 => ⟨S4096x1, .f32⟩
  | 86 => ⟨S4096x1, .f32⟩
  | 87 => ⟨S4096x1, .f32⟩
  | 88 => ⟨S4096x256, .f32⟩
  | 89 => ⟨S4096x256, .f32⟩
  | 90 => ⟨S1x256, .f32⟩
  | 91 => ⟨S4096x256, .f32⟩
  | 92 => ⟨S4096x256, .f32⟩
  | 93 => ⟨S1x256, .f32⟩
  | 94 => ⟨S4096x256, .f32⟩
  | 95 => ⟨S4096x256, .f32⟩
  | 96 => ⟨S1x256x768, .f32⟩
  | 97 => ⟨S256x768, .f32⟩
  | 98 => ⟨S4096x768, .f32⟩
  | 99 => ⟨S4096x256, .f32⟩
  | 100 => ⟨S4096x256, .f32⟩
  | 101 => ⟨S4096x256, .f32⟩
  | 102 => ⟨S_, .i32⟩
  | 103 => ⟨S4096x16, .i32⟩
  | 104 => ⟨S4096x16, .i1⟩
  | 105 => ⟨S_, .i32⟩
  | 106 => ⟨S4096x16, .i32⟩
  | 107 => ⟨S4096x16, .i32⟩
  | 108 => ⟨S4096x16, .i32⟩
  | 109 => ⟨S4096x16x1, .i32⟩
  | 110 => ⟨S4096x16x256, .f32⟩
  | 111 => ⟨S_, .i32⟩
  | 112 => ⟨S4096x16, .i32⟩
  | 113 => ⟨S4096x16, .i1⟩
  | 114 => ⟨S_, .i32⟩
  | 115 => ⟨S4096x16, .i32⟩
  | 116 => ⟨S4096x16, .i32⟩
  | 117 => ⟨S4096x16, .i32⟩
  | 118 => ⟨S4096x16x1, .i32⟩
  | 119 => ⟨S4096x16x256, .f32⟩
  | 120 => ⟨S4096x16, .f32⟩
  | 121 => ⟨S_, .f32⟩
  | 122 => ⟨S4096x16, .f32⟩
  | 123 => ⟨S4096x16, .f32⟩
  | 124 => ⟨S_, .f32⟩
  | 125 => ⟨S4096, .f32⟩
  | 126 => ⟨S_, .f32⟩
  | 127 => ⟨S4096, .f32⟩
  | _ => ⟨S4096x3, .f32⟩

abbrev hbmTy0_3 (i : Nat) : BufTy := match i % 128 with
  | 0 => ⟨S4096, .f32⟩
  | 1 => ⟨S4096x1, .f32⟩
  | 2 => ⟨S4096x16, .f32⟩
  | 3 => ⟨S4096x16, .f32⟩
  | 4 => ⟨S4096x16, .f32⟩
  | 5 => ⟨S_, .f32⟩
  | 6 => ⟨S4096, .f32⟩
  | 7 => ⟨S4096x1, .f32⟩
  | 8 => ⟨S4096x16, .f32⟩
  | 9 => ⟨S4096x16, .f32⟩
  | 10 => ⟨S4096x256, .f32⟩
  | 11 => ⟨S1x256x256, .f32⟩
  | 12 => ⟨S256x256, .f32⟩
  | 13 => ⟨S4096x256, .f32⟩
  | 14 => ⟨S1x256, .f32⟩
  | 15 => ⟨S256, .f32⟩
  | 16 => ⟨S1x256, .f32⟩
  | 17 => ⟨S4096x256, .f32⟩
  | 18 => ⟨S4096x256, .f32⟩
  | 19 => ⟨S4096x256, .f32⟩
  | 20 => ⟨S1x256, .f32⟩
  | 21 => ⟨S256, .f32⟩
  | 22 => ⟨S1x256, .f32⟩
  | 23 => ⟨S256, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x256, .f32⟩
  | 31 => ⟨S4096x256, .f32⟩
  | 32 => ⟨S4096x256, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x256, .f32⟩
  | 40 => ⟨S4096x256, .f32⟩
  | 41 => ⟨S_, .f32⟩
  | 42 => ⟨S4096x1, .f32⟩
  | 43 => ⟨S4096x1, .f32⟩
  | 44 => ⟨S4096x1, .f32⟩
  | 45 => ⟨S4096x256, .f32⟩
  | 46 => ⟨S4096x256, .f32⟩
  | 47 => ⟨S1x256, .f32⟩
  | 48 => ⟨S4096x256, .f32⟩
  | 49 => ⟨S4096x256, .f32⟩
  | 50 => ⟨S1x256, .f32⟩
  | 51 => ⟨S4096x256, .f32⟩
  | 52 => ⟨S4096x256, .f32⟩
  | 53 => ⟨S1x256x1024, .f32⟩
  | 54 => ⟨S256x1024, .f32⟩
  | 55 => ⟨S4096x1024, .f32⟩
  | 56 => ⟨S1x1024, .f32⟩
  | 57 => ⟨S1024, .f32⟩
  | 58 => ⟨S1x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S4096x1024, .f32⟩
  | 70 => ⟨S1x1024x256, .f32⟩
  | 71 => ⟨S1024x256, .f32⟩
  | 72 => ⟨S4096x256, .f32⟩
  | 73 => ⟨S1x256, .f32⟩
  | 74 => ⟨S256, .f32⟩
  | 75 => ⟨S1x256, .f32⟩
  | 76 => ⟨S4096x256, .f32⟩
  | 77 => ⟨S4096x256, .f32⟩
  | 78 => ⟨S4096x256, .f32⟩
  | 79 => ⟨S1x256, .f32⟩
  | 80 => ⟨S256, .f32⟩
  | 81 => ⟨S1x256, .f32⟩
  | 82 => ⟨S256, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S4096x256, .f32⟩
  | 90 => ⟨S4096x256, .f32⟩
  | 91 => ⟨S4096x256, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S4096x256, .f32⟩
  | 99 => ⟨S4096x256, .f32⟩
  | 100 => ⟨S_, .f32⟩
  | 101 => ⟨S4096x1, .f32⟩
  | 102 => ⟨S4096x1, .f32⟩
  | 103 => ⟨S4096x1, .f32⟩
  | 104 => ⟨S4096x256, .f32⟩
  | 105 => ⟨S4096x256, .f32⟩
  | 106 => ⟨S1x256, .f32⟩
  | 107 => ⟨S4096x256, .f32⟩
  | 108 => ⟨S4096x256, .f32⟩
  | 109 => ⟨S1x256, .f32⟩
  | 110 => ⟨S4096x256, .f32⟩
  | 111 => ⟨S4096x256, .f32⟩
  | 112 => ⟨S1x256x768, .f32⟩
  | 113 => ⟨S256x768, .f32⟩
  | 114 => ⟨S4096x768, .f32⟩
  | 115 => ⟨S4096x256, .f32⟩
  | 116 => ⟨S4096x256, .f32⟩
  | 117 => ⟨S4096x256, .f32⟩
  | 118 => ⟨S_, .i32⟩
  | 119 => ⟨S4096x16, .i32⟩
  | 120 => ⟨S4096x16, .i1⟩
  | 121 => ⟨S_, .i32⟩
  | 122 => ⟨S4096x16, .i32⟩
  | 123 => ⟨S4096x16, .i32⟩
  | 124 => ⟨S4096x16, .i32⟩
  | 125 => ⟨S4096x16x1, .i32⟩
  | 126 => ⟨S4096x16x256, .f32⟩
  | 127 => ⟨S_, .i32⟩
  | _ => ⟨S4096x3, .f32⟩

abbrev hbmTy0_4 (i : Nat) : BufTy := match i % 128 with
  | 0 => ⟨S4096x16, .i32⟩
  | 1 => ⟨S4096x16, .i1⟩
  | 2 => ⟨S_, .i32⟩
  | 3 => ⟨S4096x16, .i32⟩
  | 4 => ⟨S4096x16, .i32⟩
  | 5 => ⟨S4096x16, .i32⟩
  | 6 => ⟨S4096x16x1, .i32⟩
  | 7 => ⟨S4096x16x256, .f32⟩
  | 8 => ⟨S4096x16, .f32⟩
  | 9 => ⟨S_, .f32⟩
  | 10 => ⟨S4096x16, .f32⟩
  | 11 => ⟨S4096x16, .f32⟩
  | 12 => ⟨S_, .f32⟩
  | 13 => ⟨S4096, .f32⟩
  | 14 => ⟨S_, .f32⟩
  | 15 => ⟨S4096, .f32⟩
  | 16 => ⟨S4096, .f32⟩
  | 17 => ⟨S4096x1, .f32⟩
  | 18 => ⟨S4096x16, .f32⟩
  | 19 => ⟨S4096x16, .f32⟩
  | 20 => ⟨S4096x16, .f32⟩
  | 21 => ⟨S_, .f32⟩
  | 22 => ⟨S4096, .f32⟩
  | 23 => ⟨S4096x1, .f32⟩
  | 24 => ⟨S4096x16, .f32⟩
  | 25 => ⟨S4096x16, .f32⟩
  | 26 => ⟨S4096x256, .f32⟩
  | 27 => ⟨S1x256x256, .f32⟩
  | 28 => ⟨S256x256, .f32⟩
  | 29 => ⟨S4096x256, .f32⟩
  | 30 => ⟨S1x256, .f32⟩
  | 31 => ⟨S256, .f32⟩
  | 32 => ⟨S1x256, .f32⟩
  | 33 => ⟨S4096x256, .f32⟩
  | 34 => ⟨S4096x256, .f32⟩
  | 35 => ⟨S4096x256, .f32⟩
  | 36 => ⟨S1x256, .f32⟩
  | 37 => ⟨S256, .f32⟩
  | 38 => ⟨S1x256, .f32⟩
  | 39 => ⟨S256, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S4096x256, .f32⟩
  | 47 => ⟨S4096x256, .f32⟩
  | 48 => ⟨S4096x256, .f32⟩
  | 49 => ⟨S_, .f32⟩
  | 50 => ⟨S4096, .f32⟩
  | 51 => ⟨S4096x1, .f32⟩
  | 52 => ⟨S_, .f32⟩
  | 53 => ⟨S4096x1, .f32⟩
  | 54 => ⟨S4096x1, .f32⟩
  | 55 => ⟨S4096x256, .f32⟩
  | 56 => ⟨S4096x256, .f32⟩
  | 57 => ⟨S_, .f32⟩
  | 58 => ⟨S4096x1, .f32⟩
  | 59 => ⟨S4096x1, .f32⟩
  | 60 => ⟨S4096x1, .f32⟩
  | 61 => ⟨S4096x256, .f32⟩
  | 62 => ⟨S4096x256, .f32⟩
  | 63 => ⟨S1x256, .f32⟩
  | 64 => ⟨S4096x256, .f32⟩
  | 65 => ⟨S4096x256, .f32⟩
  | 66 => ⟨S1x256, .f32⟩
  | 67 => ⟨S4096x256, .f32⟩
  | 68 => ⟨S4096x256, .f32⟩
  | 69 => ⟨S1x256x1024, .f32⟩
  | 70 => ⟨S256x1024, .f32⟩
  | 71 => ⟨S4096x1024, .f32⟩
  | 72 => ⟨S1x1024, .f32⟩
  | 73 => ⟨S1024, .f32⟩
  | 74 => ⟨S1x1024, .f32⟩
  | 75 => ⟨S4096x1024, .f32⟩
  | 76 => ⟨S4096x1024, .f32⟩
  | 77 => ⟨S_, .f32⟩
  | 78 => ⟨S4096x1024, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S4096x1024, .f32⟩
  | 85 => ⟨S4096x1024, .f32⟩
  | 86 => ⟨S1x1024x256, .f32⟩
  | 87 => ⟨S1024x256, .f32⟩
  | 88 => ⟨S4096x256, .f32⟩
  | 89 => ⟨S1x256, .f32⟩
  | 90 => ⟨S256, .f32⟩
  | 91 => ⟨S1x256, .f32⟩
  | 92 => ⟨S4096x256, .f32⟩
  | 93 => ⟨S4096x256, .f32⟩
  | 94 => ⟨S4096x256, .f32⟩
  | _ => ⟨S4096x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_values : Ref sig .tc := ⟨.hbm, 29, rfl⟩
abbrev main_indices : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c : Ref sig .tc := ⟨.hbm, 70, rfl⟩
abbrev main_v47 : Ref sig .tc := ⟨.hbm, 71, rfl⟩
abbrev main_v48 : Ref sig .tc := ⟨.hbm, 72, rfl⟩
abbrev main_c_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_7 : Ref sig .tc := ⟨.hbm, 79, rfl⟩
abbrev main_v54 : Ref sig .tc := ⟨.hbm, 80, rfl⟩
abbrev main_v55 : Ref sig .tc := ⟨.hbm, 81, rfl⟩
abbrev main_c_8 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_13 : Ref sig .tc := ⟨.hbm, 120, rfl⟩
abbrev main_v89 : Ref sig .tc := ⟨.hbm, 121, rfl⟩
abbrev main_v90 : Ref sig .tc := ⟨.hbm, 122, rfl⟩
abbrev main_cst_14 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_15 : Ref sig .tc := ⟨.hbm, 129, rfl⟩
abbrev main_v96 : Ref sig .tc := ⟨.hbm, 130, rfl⟩
abbrev main_v97 : Ref sig .tc := ⟨.hbm, 131, rfl⟩
abbrev main_cst_16 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_17 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_18 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_19 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_20 : Ref sig .tc := ⟨.hbm, 179, rfl⟩
abbrev main_v141 : Ref sig .tc := ⟨.hbm, 180, rfl⟩
abbrev main_v142 : Ref sig .tc := ⟨.hbm, 181, rfl⟩
abbrev main_cst_21 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_22 : Ref sig .tc := ⟨.hbm, 188, rfl⟩
abbrev main_v148 : Ref sig .tc := ⟨.hbm, 189, rfl⟩
abbrev main_v149 : Ref sig .tc := ⟨.hbm, 190, rfl⟩
abbrev main_cst_23 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_24 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_c_25 : Ref sig .tc := ⟨.hbm, 214, rfl⟩
abbrev main_v171 : Ref sig .tc := ⟨.hbm, 215, rfl⟩
abbrev main_v172 : Ref sig .tc := ⟨.hbm, 216, rfl⟩
abbrev main_c_26 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_c_27 : Ref sig .tc := ⟨.hbm, 223, rfl⟩
abbrev main_v178 : Ref sig .tc := ⟨.hbm, 224, rfl⟩
abbrev main_v179 : Ref sig .tc := ⟨.hbm, 225, rfl⟩
abbrev main_c_28 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_cst_29 : Ref sig .tc := ⟨.hbm, 233, rfl⟩
abbrev main_v186 : Ref sig .tc := ⟨.hbm, 234, rfl⟩
abbrev main_v187 : Ref sig .tc := ⟨.hbm, 235, rfl⟩
abbrev main_cst_30 : Ref sig .tc := ⟨.hbm, 236, rfl⟩
abbrev main_v188 : Ref sig .tc := ⟨.hbm, 237, rfl⟩
abbrev main_cst_31 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_cst_32 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_cst_33 : Ref sig .tc := ⟨.hbm, 264, rfl⟩
abbrev main_v213 : Ref sig .tc := ⟨.hbm, 265, rfl⟩
abbrev main_v214 : Ref sig .tc := ⟨.hbm, 266, rfl⟩
abbrev main_cst_34 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_cst_35 : Ref sig .tc := ⟨.hbm, 273, rfl⟩
abbrev main_v220 : Ref sig .tc := ⟨.hbm, 274, rfl⟩
abbrev main_v221 : Ref sig .tc := ⟨.hbm, 275, rfl⟩
abbrev main_cst_36 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_cst_37 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_cst_38 : Ref sig .tc := ⟨.hbm, 301, rfl⟩
abbrev main_v245 : Ref sig .tc := ⟨.hbm, 302, rfl⟩
abbrev main_v246 : Ref sig .tc := ⟨.hbm, 303, rfl⟩
abbrev main_v247 : Ref sig .tc := ⟨.hbm, 304, rfl⟩
abbrev main_cst_39 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_cst_40 : Ref sig .tc := ⟨.hbm, 323, rfl⟩
abbrev main_v265 : Ref sig .tc := ⟨.hbm, 324, rfl⟩
abbrev main_v266 : Ref sig .tc := ⟨.hbm, 325, rfl⟩
abbrev main_cst_41 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_cst_42 : Ref sig .tc := ⟨.hbm, 332, rfl⟩
abbrev main_v272 : Ref sig .tc := ⟨.hbm, 333, rfl⟩
abbrev main_v273 : Ref sig .tc := ⟨.hbm, 334, rfl⟩
abbrev main_cst_43 : Ref sig .tc := ⟨.hbm, 335, rfl⟩
abbrev main_v274 : Ref sig .tc := ⟨.hbm, 336, rfl⟩
abbrev main_v275 : Ref sig .tc := ⟨.hbm, 337, rfl⟩
abbrev main_v276 : Ref sig .tc := ⟨.hbm, 338, rfl⟩
abbrev main_v277 : Ref sig .tc := ⟨.hbm, 339, rfl⟩
abbrev main_cst_44 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_v294 : Ref sig .tc := ⟨.hbm, 357, rfl⟩
abbrev main_c_45 : Ref sig .tc := ⟨.hbm, 358, rfl⟩
abbrev main_v295 : Ref sig .tc := ⟨.hbm, 359, rfl⟩
abbrev main_v296 : Ref sig .tc := ⟨.hbm, 360, rfl⟩
abbrev main_c_46 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_c_47 : Ref sig .tc := ⟨.hbm, 367, rfl⟩
abbrev main_v302 : Ref sig .tc := ⟨.hbm, 368, rfl⟩
abbrev main_v303 : Ref sig .tc := ⟨.hbm, 369, rfl⟩
abbrev main_c_48 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_cst_49 : Ref sig .tc := ⟨.hbm, 377, rfl⟩
abbrev main_v310 : Ref sig .tc := ⟨.hbm, 378, rfl⟩
abbrev main_v311 : Ref sig .tc := ⟨.hbm, 379, rfl⟩
abbrev main_cst_50 : Ref sig .tc := ⟨.hbm, 380, rfl⟩
abbrev main_v312 : Ref sig .tc := ⟨.hbm, 381, rfl⟩
abbrev main_cst_51 : Ref sig .tc := ⟨.hbm, 382, rfl⟩
abbrev main_v313 : Ref sig .tc := ⟨.hbm, 383, rfl⟩
abbrev main_v314 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_cst_52 : Ref sig .tc := ⟨.hbm, 389, rfl⟩
abbrev main_v319 : Ref sig .tc := ⟨.hbm, 390, rfl⟩
abbrev main_v320 : Ref sig .tc := ⟨.hbm, 391, rfl⟩
abbrev main_v321 : Ref sig .tc := ⟨.hbm, 392, rfl⟩
abbrev main_v322 : Ref sig .tc := ⟨.hbm, 393, rfl⟩
abbrev main_v323 : Ref sig .tc := ⟨.hbm, 394, rfl⟩
abbrev main_v324 : Ref sig .tc := ⟨.hbm, 395, rfl⟩
abbrev main_v325 : Ref sig .tc := ⟨.hbm, 396, rfl⟩
abbrev main_v326 : Ref sig .tc := ⟨.hbm, 397, rfl⟩
abbrev main_v327 : Ref sig .tc := ⟨.hbm, 398, rfl⟩
abbrev main_v328 : Ref sig .tc := ⟨.hbm, 399, rfl⟩
abbrev main_v329 : Ref sig .tc := ⟨.hbm, 400, rfl⟩
abbrev main_v330 : Ref sig .tc := ⟨.hbm, 401, rfl⟩
abbrev main_v331 : Ref sig .tc := ⟨.hbm, 402, rfl⟩
abbrev main_v332 : Ref sig .tc := ⟨.hbm, 403, rfl⟩
abbrev main_v333 : Ref sig .tc := ⟨.hbm, 404, rfl⟩
abbrev main_v334 : Ref sig .tc := ⟨.hbm, 405, rfl⟩
abbrev main_v335 : Ref sig .tc := ⟨.hbm, 406, rfl⟩
abbrev main_v336 : Ref sig .tc := ⟨.hbm, 407, rfl⟩
abbrev main_cst_53 : Ref sig .tc := ⟨.hbm, 408, rfl⟩
abbrev main_v337 : Ref sig .tc := ⟨.hbm, 409, rfl⟩
abbrev main_v338 : Ref sig .tc := ⟨.hbm, 410, rfl⟩
abbrev main_cst_54 : Ref sig .tc := ⟨.hbm, 411, rfl⟩
abbrev main_v339 : Ref sig .tc := ⟨.hbm, 412, rfl⟩
abbrev main_v340 : Ref sig .tc := ⟨.hbm, 413, rfl⟩
abbrev main_v341 : Ref sig .tc := ⟨.hbm, 414, rfl⟩
abbrev main_v342 : Ref sig .tc := ⟨.hbm, 415, rfl⟩
abbrev main_v343 : Ref sig .tc := ⟨.hbm, 416, rfl⟩
abbrev main_cst_55 : Ref sig .tc := ⟨.hbm, 417, rfl⟩
abbrev main_v344 : Ref sig .tc := ⟨.hbm, 418, rfl⟩
abbrev main_v345 : Ref sig .tc := ⟨.hbm, 419, rfl⟩
abbrev main_cst_56 : Ref sig .tc := ⟨.hbm, 420, rfl⟩
abbrev main_v346 : Ref sig .tc := ⟨.hbm, 421, rfl⟩
abbrev main_v347 : Ref sig .tc := ⟨.hbm, 422, rfl⟩
abbrev main_v348 : Ref sig .tc := ⟨.hbm, 423, rfl⟩
abbrev main_v349 : Ref sig .tc := ⟨.hbm, 424, rfl⟩
abbrev main_cst_57 : Ref sig .tc := ⟨.hbm, 425, rfl⟩
abbrev main_v350 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_v354 : Ref sig .tc := ⟨.hbm, 430, rfl⟩
abbrev main_v355 : Ref sig .tc := ⟨.hbm, 431, rfl⟩
abbrev main_v356 : Ref sig .tc := ⟨.hbm, 432, rfl⟩
abbrev main_v357 : Ref sig .tc := ⟨.hbm, 433, rfl⟩
abbrev main_v358 : Ref sig .tc := ⟨.hbm, 434, rfl⟩
abbrev main_v359 : Ref sig .tc := ⟨.hbm, 435, rfl⟩
abbrev main_v360 : Ref sig .tc := ⟨.hbm, 436, rfl⟩
abbrev main_v361 : Ref sig .tc := ⟨.hbm, 437, rfl⟩
abbrev main_v362 : Ref sig .tc := ⟨.hbm, 438, rfl⟩
abbrev main_v363 : Ref sig .tc := ⟨.hbm, 439, rfl⟩
abbrev main_v364 : Ref sig .tc := ⟨.hbm, 440, rfl⟩
abbrev main_v365 : Ref sig .tc := ⟨.hbm, 441, rfl⟩
abbrev main_v366 : Ref sig .tc := ⟨.hbm, 442, rfl⟩
abbrev main_v367 : Ref sig .tc := ⟨.hbm, 443, rfl⟩
abbrev main_v368 : Ref sig .tc := ⟨.hbm, 444, rfl⟩
abbrev main_cst_58 : Ref sig .tc := ⟨.hbm, 445, rfl⟩
abbrev main_v369 : Ref sig .tc := ⟨.hbm, 446, rfl⟩
abbrev main_v370 : Ref sig .tc := ⟨.hbm, 447, rfl⟩
abbrev main_v371 : Ref sig .tc := ⟨.hbm, 448, rfl⟩
abbrev main_cst_59 : Ref sig .tc := ⟨.hbm, 449, rfl⟩
abbrev main_v372 : Ref sig .tc := ⟨.hbm, 450, rfl⟩
abbrev main_v373 : Ref sig .tc := ⟨.hbm, 451, rfl⟩
abbrev main_v374 : Ref sig .tc := ⟨.hbm, 452, rfl⟩
abbrev main_v375 : Ref sig .tc := ⟨.hbm, 453, rfl⟩
abbrev main_v376 : Ref sig .tc := ⟨.hbm, 454, rfl⟩
abbrev main_v377 : Ref sig .tc := ⟨.hbm, 455, rfl⟩
abbrev main_v378 : Ref sig .tc := ⟨.hbm, 456, rfl⟩
abbrev main_v379 : Ref sig .tc := ⟨.hbm, 457, rfl⟩
abbrev main_v380 : Ref sig .tc := ⟨.hbm, 458, rfl⟩
abbrev main_v381 : Ref sig .tc := ⟨.hbm, 459, rfl⟩
abbrev main_v382 : Ref sig .tc := ⟨.hbm, 460, rfl⟩
abbrev main_v383 : Ref sig .tc := ⟨.hbm, 461, rfl⟩
abbrev main_v384 : Ref sig .tc := ⟨.hbm, 462, rfl⟩
abbrev main_v385 : Ref sig .tc := ⟨.hbm, 463, rfl⟩
abbrev main_v386 : Ref sig .tc := ⟨.hbm, 464, rfl⟩
abbrev main_v387 : Ref sig .tc := ⟨.hbm, 465, rfl⟩
abbrev main_v388 : Ref sig .tc := ⟨.hbm, 466, rfl⟩
abbrev main_cst_60 : Ref sig .tc := ⟨.hbm, 467, rfl⟩
abbrev main_v389 : Ref sig .tc := ⟨.hbm, 468, rfl⟩
abbrev main_v390 : Ref sig .tc := ⟨.hbm, 469, rfl⟩
abbrev main_cst_61 : Ref sig .tc := ⟨.hbm, 470, rfl⟩
abbrev main_v391 : Ref sig .tc := ⟨.hbm, 471, rfl⟩
abbrev main_v392 : Ref sig .tc := ⟨.hbm, 472, rfl⟩
abbrev main_v393 : Ref sig .tc := ⟨.hbm, 473, rfl⟩
abbrev main_v394 : Ref sig .tc := ⟨.hbm, 474, rfl⟩
abbrev main_v395 : Ref sig .tc := ⟨.hbm, 475, rfl⟩
abbrev main_cst_62 : Ref sig .tc := ⟨.hbm, 476, rfl⟩
abbrev main_v396 : Ref sig .tc := ⟨.hbm, 477, rfl⟩
abbrev main_v397 : Ref sig .tc := ⟨.hbm, 478, rfl⟩
abbrev main_cst_63 : Ref sig .tc := ⟨.hbm, 479, rfl⟩
abbrev main_v398 : Ref sig .tc := ⟨.hbm, 480, rfl⟩
abbrev main_v399 : Ref sig .tc := ⟨.hbm, 481, rfl⟩
abbrev main_v400 : Ref sig .tc := ⟨.hbm, 482, rfl⟩
abbrev main_v401 : Ref sig .tc := ⟨.hbm, 483, rfl⟩
abbrev main_cst_64 : Ref sig .tc := ⟨.hbm, 484, rfl⟩
abbrev main_v402 : Ref sig .tc := ⟨.hbm, 485, rfl⟩
abbrev main_v403 : Ref sig .tc := ⟨.hbm, 486, rfl⟩
abbrev main_v404 : Ref sig .tc := ⟨.hbm, 487, rfl⟩
abbrev main_v405 : Ref sig .tc := ⟨.hbm, 488, rfl⟩
abbrev main_v406 : Ref sig .tc := ⟨.hbm, 489, rfl⟩
abbrev main_v407 : Ref sig .tc := ⟨.hbm, 490, rfl⟩
abbrev main_v408 : Ref sig .tc := ⟨.hbm, 491, rfl⟩
abbrev main_v409 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_v418 : Ref sig .tc := ⟨.hbm, 501, rfl⟩
abbrev main_c_65 : Ref sig .tc := ⟨.hbm, 502, rfl⟩
abbrev main_v419 : Ref sig .tc := ⟨.hbm, 503, rfl⟩
abbrev main_v420 : Ref sig .tc := ⟨.hbm, 504, rfl⟩
abbrev main_c_66 : Ref sig .tc := ⟨.hbm, 505, rfl⟩
abbrev main_v421 : Ref sig .tc := ⟨.hbm, 506, rfl⟩
abbrev main_v422 : Ref sig .tc := ⟨.hbm, 507, rfl⟩
abbrev main_v423 : Ref sig .tc := ⟨.hbm, 508, rfl⟩
abbrev main_v424 : Ref sig .tc := ⟨.hbm, 509, rfl⟩
abbrev main_v425 : Ref sig .tc := ⟨.hbm, 510, rfl⟩
abbrev main_c_67 : Ref sig .tc := ⟨.hbm, 511, rfl⟩
abbrev main_v426 : Ref sig .tc := ⟨.hbm, 512, rfl⟩
abbrev main_v427 : Ref sig .tc := ⟨.hbm, 513, rfl⟩
abbrev main_c_68 : Ref sig .tc := ⟨.hbm, 514, rfl⟩
abbrev main_v428 : Ref sig .tc := ⟨.hbm, 515, rfl⟩
abbrev main_v429 : Ref sig .tc := ⟨.hbm, 516, rfl⟩
abbrev main_v430 : Ref sig .tc := ⟨.hbm, 517, rfl⟩
abbrev main_v431 : Ref sig .tc := ⟨.hbm, 518, rfl⟩
abbrev main_v432 : Ref sig .tc := ⟨.hbm, 519, rfl⟩
abbrev main_v433 : Ref sig .tc := ⟨.hbm, 520, rfl⟩
abbrev main_cst_69 : Ref sig .tc := ⟨.hbm, 521, rfl⟩
abbrev main_v434 : Ref sig .tc := ⟨.hbm, 522, rfl⟩
abbrev main_v435 : Ref sig .tc := ⟨.hbm, 523, rfl⟩
abbrev main_cst_70 : Ref sig .tc := ⟨.hbm, 524, rfl⟩
abbrev main_v436 : Ref sig .tc := ⟨.hbm, 525, rfl⟩
abbrev main_cst_71 : Ref sig .tc := ⟨.hbm, 526, rfl⟩
abbrev main_v437 : Ref sig .tc := ⟨.hbm, 527, rfl⟩
abbrev main_v438 : Ref sig .tc := ⟨.hbm, 528, rfl⟩
abbrev main_v439 : Ref sig .tc := ⟨.hbm, 529, rfl⟩
abbrev main_v440 : Ref sig .tc := ⟨.hbm, 530, rfl⟩
abbrev main_v441 : Ref sig .tc := ⟨.hbm, 531, rfl⟩
abbrev main_v442 : Ref sig .tc := ⟨.hbm, 532, rfl⟩
abbrev main_cst_72 : Ref sig .tc := ⟨.hbm, 533, rfl⟩
abbrev main_v443 : Ref sig .tc := ⟨.hbm, 534, rfl⟩
abbrev main_v444 : Ref sig .tc := ⟨.hbm, 535, rfl⟩
abbrev main_v445 : Ref sig .tc := ⟨.hbm, 536, rfl⟩
abbrev main_v446 : Ref sig .tc := ⟨.hbm, 537, rfl⟩
abbrev main_v447 : Ref sig .tc := ⟨.hbm, 538, rfl⟩
abbrev main_v448 : Ref sig .tc := ⟨.hbm, 539, rfl⟩
abbrev main_v449 : Ref sig .tc := ⟨.hbm, 540, rfl⟩
abbrev main_v450 : Ref sig .tc := ⟨.hbm, 541, rfl⟩
abbrev main_v451 : Ref sig .tc := ⟨.hbm, 542, rfl⟩
abbrev main_v452 : Ref sig .tc := ⟨.hbm, 543, rfl⟩
abbrev main_v453 : Ref sig .tc := ⟨.hbm, 544, rfl⟩
abbrev main_v454 : Ref sig .tc := ⟨.hbm, 545, rfl⟩
abbrev main_v455 : Ref sig .tc := ⟨.hbm, 546, rfl⟩
abbrev main_v456 : Ref sig .tc := ⟨.hbm, 547, rfl⟩
abbrev main_v457 : Ref sig .tc := ⟨.hbm, 548, rfl⟩
abbrev main_v458 : Ref sig .tc := ⟨.hbm, 549, rfl⟩
abbrev main_v459 : Ref sig .tc := ⟨.hbm, 550, rfl⟩
abbrev main_v460 : Ref sig .tc := ⟨.hbm, 551, rfl⟩
abbrev main_cst_73 : Ref sig .tc := ⟨.hbm, 552, rfl⟩
abbrev main_v461 : Ref sig .tc := ⟨.hbm, 553, rfl⟩
abbrev main_v462 : Ref sig .tc := ⟨.hbm, 554, rfl⟩
abbrev main_cst_74 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_v467 : Ref sig .tc := ⟨.hbm, 560, rfl⟩
abbrev main_cst_75 : Ref sig .tc := ⟨.hbm, 561, rfl⟩
abbrev main_v468 : Ref sig .tc := ⟨.hbm, 562, rfl⟩
abbrev main_v469 : Ref sig .tc := ⟨.hbm, 563, rfl⟩
abbrev main_cst_76 : Ref sig .tc := ⟨.hbm, 564, rfl⟩
abbrev main_v470 : Ref sig .tc := ⟨.hbm, 565, rfl⟩
abbrev main_v471 : Ref sig .tc := ⟨.hbm, 566, rfl⟩
abbrev main_v472 : Ref sig .tc := ⟨.hbm, 567, rfl⟩
abbrev main_v473 : Ref sig .tc := ⟨.hbm, 568, rfl⟩
abbrev main_cst_77 : Ref sig .tc := ⟨.hbm, 569, rfl⟩
abbrev main_v474 : Ref sig .tc := ⟨.hbm, 570, rfl⟩
abbrev main_v475 : Ref sig .tc := ⟨.hbm, 571, rfl⟩
abbrev main_v476 : Ref sig .tc := ⟨.hbm, 572, rfl⟩
abbrev main_v477 : Ref sig .tc := ⟨.hbm, 573, rfl⟩
abbrev main_v478 : Ref sig .tc := ⟨.hbm, 574, rfl⟩
abbrev main_v479 : Ref sig .tc := ⟨.hbm, 575, rfl⟩
abbrev main_v480 : Ref sig .tc := ⟨.hbm, 576, rfl⟩
abbrev main_v481 : Ref sig .tc := ⟨.hbm, 577, rfl⟩
abbrev main_v482 : Ref sig .tc := ⟨.hbm, 578, rfl⟩
abbrev main_v483 : Ref sig .tc := ⟨.hbm, 579, rfl⟩
abbrev main_v484 : Ref sig .tc := ⟨.hbm, 580, rfl⟩
abbrev main_v485 : Ref sig .tc := ⟨.hbm, 581, rfl⟩
abbrev main_v486 : Ref sig .tc := ⟨.hbm, 582, rfl⟩
abbrev main_v487 : Ref sig .tc := ⟨.hbm, 583, rfl⟩
abbrev main_v488 : Ref sig .tc := ⟨.hbm, 584, rfl⟩
abbrev main_v489 : Ref sig .tc := ⟨.hbm, 585, rfl⟩
abbrev main_v490 : Ref sig .tc := ⟨.hbm, 586, rfl⟩
abbrev main_v491 : Ref sig .tc := ⟨.hbm, 587, rfl⟩
abbrev main_v492 : Ref sig .tc := ⟨.hbm, 588, rfl⟩
abbrev main_cst_78 : Ref sig .tc := ⟨.hbm, 589, rfl⟩
abbrev main_v493 : Ref sig .tc := ⟨.hbm, 590, rfl⟩
abbrev main_v494 : Ref sig .tc := ⟨.hbm, 591, rfl⟩
abbrev main_v495 : Ref sig .tc := ⟨.hbm, 592, rfl⟩
abbrev main_cst_79 : Ref sig .tc := ⟨.hbm, 593, rfl⟩
abbrev main_v496 : Ref sig .tc := ⟨.hbm, 594, rfl⟩
abbrev main_v497 : Ref sig .tc := ⟨.hbm, 595, rfl⟩
abbrev main_v498 : Ref sig .tc := ⟨.hbm, 596, rfl⟩
abbrev main_v499 : Ref sig .tc := ⟨.hbm, 597, rfl⟩
abbrev main_v500 : Ref sig .tc := ⟨.hbm, 598, rfl⟩
abbrev main_v501 : Ref sig .tc := ⟨.hbm, 599, rfl⟩
abbrev main_v502 : Ref sig .tc := ⟨.hbm, 600, rfl⟩
abbrev main_v503 : Ref sig .tc := ⟨.hbm, 601, rfl⟩
abbrev main_v504 : Ref sig .tc := ⟨.hbm, 602, rfl⟩
abbrev main_v505 : Ref sig .tc := ⟨.hbm, 603, rfl⟩
abbrev main_v506 : Ref sig .tc := ⟨.hbm, 604, rfl⟩
abbrev main_v507 : Ref sig .tc := ⟨.hbm, 605, rfl⟩
abbrev main_v508 : Ref sig .tc := ⟨.hbm, 606, rfl⟩

abbrev nD : Nat := 1
abbrev τ : Topo := Topo.v7x

variable {F : FTy → Type} [FloatOps F]
-- ==== Proof.Frames.lean ====
/-
  The claims that say a program ends cleanly and leaves its arguments alone, and the side conditions of the
  precondition function. The two kernel programs' frames are the generated ones; the reference's is read off
  its run.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Lib.Quiescent
public import Idealize.ShloMosaic.Init

@[expose] public section

noncomputable section

namespace Cert.Proof

open Idealize.ShloMosaic Idealize.SL.Sem

/-- The precondition function slices the projection's query and key columns and broadcasts one element to each array's
shape. -/
theorem preFacts : Cert.Pre_scores_finite.Facts where
  slices_S4x256x768_S4x256x512_0_0_0 := by decide
  bcast_S_S4096x3 := by decide
  bcast_S_S4x256 := by decide
  bcast_S_S4x256x512 := by decide

/-- The idealized kernel ends cleanly and keeps its arguments, with or without the precondition. -/
theorem frameKernelIdeal_pre (h : Cert.Pre_scores_finite.Facts) :
    Cert.quiescent_KernelIdeal_pre_scores_finite (hKernelIdeal := Cert.KernelIdeal.Gen.facts) (hPre_scores_finite := h) :=
  fun m ρ _ => Cert.KernelIdeal.Gen.frame m ρ

/-- The reference ends cleanly and keeps its arguments: its run says so beside the result. -/
theorem frameReference : Cert.quiescent_ReferenceIdeal (hReferenceIdeal := Cert.ReferenceIdeal.Gen.facts) :=
  fun m ρ _ => (θ_run _ _ _).mono (fun r h => ⟨fun c => (h c).2, sem_eq_zero_of_no_sems rfl r.2⟩) (Cert.ReferenceIdeal.Value.run (F := Ideal) m ρ)

/-- The same under the precondition, which the reference's frame does not need. -/
theorem frameReference_pre (h : Cert.Pre_scores_finite.Facts) :
    Cert.quiescent_ReferenceIdeal_pre_scores_finite (hReferenceIdeal := Cert.ReferenceIdeal.Gen.facts) (hPre_scores_finite := h) :=
  fun m ρ _ => (θ_run _ _ _).mono (fun r h => ⟨fun c => (h c).2, sem_eq_zero_of_no_sems rfl r.2⟩) (Cert.ReferenceIdeal.Value.run (F := Ideal) m ρ)

/-- The one named constant, the mask's -1e30, is minus infinity in the idealized kernel. -/
theorem maskPreserved : Cert.preserves_Kernel_KernelIdeal :=
  IdealRules.named_const.statement Cert.KernelIdeal.κ "mask" .f32 0xF149F2CA#32 ⊥ rfl

end Cert.Proof

end
-- ==== Proof.Spec.lean ====
/-
  The layer the kernel and the reference both compute, row by row, on extended reals: layer norm, the three
  projections, attention over a set of rows, the output projection and the two-layer perceptron, each added to its
  input. The kernel attends over all rows with the ones not chosen masked; the reference over the chosen rows alone.
  Where the weights the scores depend on are finite the two agree.
-/
module

public import Idealize.ShloMosaic.PureOps.Ideal
public import Idealize.ShloMosaic.PureOps.Ideal.Laws
public import Mathlib.Data.Finset.Fold

@[expose] public section

noncomputable section

namespace Cert.Proof

open Idealize.ShloMosaic

/-! ## The layer's parts -/

/-- The weights of one layer. -/
structure Params where
  g1 : Fin 256 → EReal
  b1 : Fin 256 → EReal
  wqkv : Fin 256 → Fin 768 → EReal
  wp : Fin 256 → Fin 256 → EReal
  bp : Fin 256 → EReal
  g2 : Fin 256 → EReal
  b2 : Fin 256 → EReal
  w1 : Fin 256 → Fin 1024 → EReal
  c1 : Fin 1024 → EReal
  w2 : Fin 1024 → Fin 256 → EReal
  c2 : Fin 256 → EReal

/-- A row's mean. -/
def mean (x : Fin 256 → EReal) : EReal := Ideal.div (∑ k, x k) (Ideal.ofBits .f32 0x43800000#32)

/-- A row's variance. -/
def variance (x : Fin 256 → EReal) : EReal :=
  Ideal.div (∑ k, (x k - mean x) * (x k - mean x)) (Ideal.ofBits .f32 0x43800000#32)

/-- A row normalized, scaled and shifted. -/
def ln (g b x : Fin 256 → EReal) (k : Fin 256) : EReal :=
  Ideal.div (x k - mean x) (Ideal.sqrt (variance x + Ideal.ofBits .f32 0x3727C5AC#32)) * g k + b k

/-- A row's query, key and value side by side. -/
def qkv (P : Params) (x : Fin 256 → EReal) (j : Fin 768) : EReal := ∑ k, ln P.g1 P.b1 x k * P.wqkv k j

/-- The query's, the key's and the value's entry `c` among the 768. -/
def qcol (c : Fin 256) : Fin 768 := ⟨c.val, by omega⟩
def kcol (c : Fin 256) : Fin 768 := ⟨256 + c.val, by omega⟩
def vcol (c : Fin 256) : Fin 768 := ⟨512 + c.val, by omega⟩
/-- Query columns are among the first 512. -/
theorem qcol_lt (c : Fin 256) : (qcol c).val < 512 := by unfold qcol; have := c.isLt; show c.val < 512; omega
/-- So are key columns. -/
theorem kcol_lt (c : Fin 256) : (kcol c).val < 512 := by unfold kcol; have := c.isLt; show 256 + c.val < 512; omega

/-- The scaled product of a query and a key. -/
def score (q k : Fin 256 → EReal) : EReal := (∑ c, q c * k c) * Ideal.ofBits .f32 0x3D800000#32

/-- The softmax of scores, as weights of values: entry `c` of the mixture. -/
def mix {ι : Type} [Fintype ι] (s : ι → EReal) (v : ι → Fin 256 → EReal) (c : Fin 256) : EReal :=
  ∑ n, Ideal.div (Ideal.exp (s n - Finset.univ.fold max (⊥ : EReal) s))
    (∑ m, Ideal.exp (s m - Finset.univ.fold max (⊥ : EReal) s)) * v n c

/-- The row after attention: the mixture projected and added to the row. -/
def afterAttn (P : Params) (x a : Fin 256 → EReal) (c : Fin 256) : EReal := x c + (∑ k, a k * P.wp k c + P.bp c)

/-- The perceptron's inner layer before its activation. -/
def hidden (P : Params) (y : Fin 256 → EReal) (j : Fin 1024) : EReal := ∑ k, ln P.g2 P.b2 y k * P.w1 k j + P.c1 j

/-- The activation. -/
def gelu (h : EReal) : EReal :=
  Ideal.ofBits .f32 0x3F000000#32 * h * (1 + Ideal.erf (h * Ideal.ofBits .f32 0x3F3504F3#32))

/-- The row after the perceptron. -/
def afterMlp (P : Params) (y : Fin 256 → EReal) (c : Fin 256) : EReal :=
  y c + (∑ j, gelu (hidden P y j) * P.w2 j c + P.c2 c)

/-- The layer with the rows not chosen masked: `M r n` says row `r` looks at row `n`. -/
def layerM (M : Fin 4096 → Fin 4096 → Prop) [∀ r n, Decidable (M r n)] (P : Params) (X : Fin 4096 → Fin 256 → EReal) (r : Fin 4096) :
    Fin 256 → EReal :=
  afterMlp P (afterAttn P (X r) (mix
    (fun n => if M r n then score (fun c => qkv P (X r) (qcol c)) (fun c => qkv P (X n) (kcol c)) else ⊥)
    (fun n c => qkv P (X n) (vcol c))))

/-- The layer over the chosen rows alone: row `r` looks at the rows `σ r t`. -/
def layerS (σ : Fin 4096 → Fin 16 → Fin 4096) (P : Params) (X : Fin 4096 → Fin 256 → EReal) (r : Fin 4096) : Fin 256 → EReal :=
  afterMlp P (afterAttn P (X r) (mix
    (fun t => score (fun c => qkv P (X r) (qcol c)) (fun c => qkv P (X (σ r t)) (kcol c)))
    (fun t c => qkv P (X (σ r t)) (vcol c))))

/-! ## The activation's two spellings -/

/-- The error function is odd. -/
theorem erf_neg (x : EReal) : Ideal.erf (-x) = -Ideal.erf x := by
  induction x using EReal.rec with
  | bot => show (1 : EReal) = - -1; simp
  | top => rfl
  | coe r =>
    have h := intervalIntegral.integral_comp_neg (a := 0) (b := r) (fun t : ℝ => Real.exp (-(t ^ 2)))
    simp only [neg_zero, even_two, Even.neg_pow] at h
    rw [intervalIntegral.integral_symm 0 (-r)] at h
    show ((2 / Real.sqrt Real.pi * ∫ t in (0 : ℝ)..(-r), Real.exp (-(t ^ 2)) : ℝ) : EReal)
      = -((2 / Real.sqrt Real.pi * ∫ t in (0 : ℝ)..r, Real.exp (-(t ^ 2)) : ℝ) : EReal)
    rw [h, mul_neg, EReal.coe_neg, neg_neg]

/-- The activation by the complementary error function of the negated argument. -/
theorem gelu_erfc (h : EReal) :
    Ideal.ofBits .f32 0x3F000000#32 * h * Ideal.erfc (-h * Ideal.ofBits .f32 0x3F3504F3#32) = gelu h := by
  unfold gelu Ideal.erfc
  rw [EReal.neg_mul, erf_neg, sub_eq_add_neg, neg_neg]

/-! ## Finite values -/

/-- The value is a real number. -/
def IsReal (x : EReal) : Prop := ∃ r : ℝ, x = r

/-- A real number is not plus infinity. -/
theorem IsReal.ne_top {x : EReal} (h : IsReal x) : x ≠ ⊤ := by obtain ⟨r, rfl⟩ := h; exact EReal.coe_ne_top r
/-- Nor minus infinity. -/
theorem IsReal.ne_bot {x : EReal} (h : IsReal x) : x ≠ ⊥ := by obtain ⟨r, rfl⟩ := h; exact EReal.coe_ne_bot r
/-- Sums, differences, products and finite sums of real numbers are real. -/
theorem IsReal.add {x y : EReal} (hx : IsReal x) (hy : IsReal y) : IsReal (x + y) := by
  obtain ⟨a, rfl⟩ := hx; obtain ⟨b, rfl⟩ := hy; exact ⟨a + b, by push_cast; rfl⟩
theorem IsReal.sub {x y : EReal} (hx : IsReal x) (hy : IsReal y) : IsReal (x - y) := by
  obtain ⟨a, rfl⟩ := hx; obtain ⟨b, rfl⟩ := hy; exact ⟨a - b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
/-- A sum of real numbers, read as extended reals. -/
theorem coe_sum {ι : Type} (s : Finset ι) (g : ι → ℝ) : ((∑ i ∈ s, g i : ℝ) : EReal) = ∑ i ∈ s, (g i : EReal) :=
  map_sum (⟨⟨Real.toEReal, EReal.coe_zero⟩, EReal.coe_add⟩ : ℝ →+ EReal) g s

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩
/-- The quotient of two real numbers, the second not zero. -/
theorem div_coe (a b : ℝ) (hb : b ≠ 0) : Ideal.div (a : EReal) (b : EReal) = ((a / b : ℝ) : EReal) := by
  unfold Ideal.div
  rw [if_neg (by norm_cast), ← EReal.coe_inv, ← EReal.coe_mul, div_eq_mul_inv]
/-- The row length, 256. -/
theorem bits256 : Ideal.ofBits .f32 0x43800000#32 = ((256 : ℝ) : EReal) := by
  simp [Ideal.ofBits, Ideal.ieee, -EReal.coe_mul]; norm_num
/-- The norm's small constant is a positive number. -/
theorem bitsEps : ∃ e : ℝ, 0 < e ∧ Ideal.ofBits .f32 0x3727C5AC#32 = (e : EReal) := by
  refine ⟨_, ?_, by simp [Ideal.ofBits, Ideal.ieee, -EReal.coe_mul]; rfl⟩
  positivity
/-- The score scale is a real number. -/
theorem isReal_scale : IsReal (Ideal.ofBits .f32 0x3D800000#32) :=
  ⟨_, by simp [Ideal.ofBits, Ideal.ieee, -EReal.coe_mul]; rfl⟩
/-- A finite row's mean is finite. -/
theorem isReal_mean {x : Fin 256 → EReal} (hx : ∀ k, IsReal (x k)) : IsReal (mean x) := by
  obtain ⟨s, hs⟩ := IsReal.sum Finset.univ x hx
  unfold mean
  rw [hs, bits256, div_coe _ _ (by norm_num)]
  exact ⟨_, rfl⟩

/-- The root of a finite row's variance is a positive number. -/
theorem sqrt_variance {x : Fin 256 → EReal} (hx : ∀ k, IsReal (x k)) :
    ∃ s : ℝ, 0 < s ∧ Ideal.sqrt (variance x + Ideal.ofBits .f32 0x3727C5AC#32) = (s : EReal) := by
  obtain ⟨e, he, hbe⟩ := bitsEps
  have hd : ∀ k, IsReal (x k - mean x) := fun k => (hx k).sub (isReal_mean hx)
  choose d hd using hd
  have hv : variance x = (((∑ k, d k * d k) / 256 : ℝ) : EReal) := by
    unfold variance
    simp only [hd]
    rw [bits256, ← div_coe _ _ (by norm_num), coe_sum]
    rfl
  have hpos : 0 < (∑ k, d k * d k) / 256 + e :=
    add_pos_of_nonneg_of_pos (div_nonneg (Finset.sum_nonneg fun k _ => mul_self_nonneg _) (by norm_num)) he
  refine ⟨Real.sqrt ((∑ k, d k * d k) / 256 + e), Real.sqrt_pos.mpr hpos, ?_⟩
  rw [hv, hbe, ← EReal.coe_add]
  show (if _ < (0 : ℝ) then (⊥ : EReal) else _) = _
  rw [if_neg (not_lt.mpr hpos.le)]

/-- A finite row's normalized entries are finite. -/
theorem isReal_ln {g b x : Fin 256 → EReal} (hg : ∀ k, IsReal (g k)) (hb : ∀ k, IsReal (b k)) (hx : ∀ k, IsReal (x k))
    (k : Fin 256) : IsReal (ln g b x k) := by
  obtain ⟨s, hs, e⟩ := sqrt_variance hx
  obtain ⟨d, hd⟩ := (hx k).sub (isReal_mean hx)
  unfold ln
  rw [e, hd, div_coe _ _ hs.ne']
  exact (IsReal.mul ⟨_, rfl⟩ (hg k)).add (hb k)

/-! A row with an infinite entry has an infinite mean and variance, and normalizes to the shift: its normalized entries are
finite too. -/

/-- An extended real that is not a real number is one of the infinities. -/
theorem infinite {x : EReal} (h : ¬ IsReal x) : x = ⊤ ∨ x = ⊥ := by
  induction x using EReal.rec with
  | bot => exact Or.inr rfl
  | top => exact Or.inl rfl
  | coe r => exact absurd ⟨r, rfl⟩ h

/-- The infinities are not real numbers. -/
theorem not_isReal_top : ¬ IsReal ⊤ := fun h => h.ne_top rfl
theorem not_isReal_bot : ¬ IsReal ⊥ := fun h => h.ne_bot rfl

/-- Two summands of a finite sum are finite. -/
theorem isReal_of_add {a b : EReal} (h : IsReal (a + b)) : IsReal a ∧ IsReal b := by
  induction a using EReal.rec with
  | bot => rw [EReal.bot_add] at h; exact absurd h not_isReal_bot
  | top =>
    induction b using EReal.rec with
    | bot => rw [EReal.add_bot] at h; exact absurd h not_isReal_bot
    | top => exact absurd h not_isReal_top
    | coe s => rw [EReal.top_add_coe] at h; exact absurd h not_isReal_top
  | coe r =>
    induction b using EReal.rec with
    | bot => rw [EReal.add_bot] at h; exact absurd h not_isReal_bot
    | top => rw [EReal.coe_add_top] at h; exact absurd h not_isReal_top
    | coe s => exact ⟨⟨r, rfl⟩, ⟨s, rfl⟩⟩

/-- Every term of a finite sum is finite. -/
theorem isReal_of_sum {ι : Type} (s : Finset ι) (f : ι → EReal) (h : IsReal (∑ i ∈ s, f i)) : ∀ i ∈ s, IsReal (f i) := by
  classical
  induction s using Finset.induction_on with
  | empty => intro i hi; exact absurd hi (Finset.notMem_empty i)
  | insert a s ha ih =>
    rw [Finset.sum_insert ha] at h
    intro i hi
    rcases Finset.mem_insert.mp hi with rfl | hi
    · exact (isReal_of_add h).1
    · exact ih (isReal_of_add h).2 i hi

/-- Infinite terms of one sign sum to their infinity. -/
theorem sum_top {x : Fin 256 → EReal} (h : ∀ k, x k = ⊤) : ∑ k, x k = ⊤ := by
  rcases infinite (x := ∑ k, x k) fun hr => not_isReal_top (h 0 ▸ isReal_of_sum _ _ hr 0 (Finset.mem_univ _)) with e | e
  · exact e
  · have : (0 : EReal) ≤ ∑ k, x k := Finset.sum_nonneg fun k _ => by rw [h]; exact le_top
    rw [e] at this
    exact absurd this (by simp)

/-- An infinity over 256 is itself. -/
theorem div_infinite {x : EReal} (h : x = ⊤ ∨ x = ⊥) : Ideal.div x (Ideal.ofBits .f32 0x43800000#32) = x := by
  rw [bits256]
  unfold Ideal.div
  rw [if_neg (by norm_num), ← EReal.coe_inv]
  rcases h with rfl | rfl
  · exact EReal.top_mul_coe_of_pos (by norm_num)
  · exact EReal.bot_mul_coe_of_pos (by norm_num)

/-- The variance of a row with an infinite entry. -/
theorem variance_infinite {x : Fin 256 → EReal} (h : ¬ ∀ k, IsReal (x k)) : variance x = ⊤ := by
  have hs : ∑ k, x k = ⊤ ∨ ∑ k, x k = ⊥ := infinite fun hr => h fun k => isReal_of_sum _ _ hr k (Finset.mem_univ _)
  have hm : mean x = ⊤ ∨ mean x = ⊥ := by unfold mean; rw [div_infinite hs]; exact hs
  have hq : ∀ k, (x k - mean x) * (x k - mean x) = ⊤ := fun k => by
    have hd : x k - mean x = ⊤ ∨ x k - mean x = ⊥ := by
      rcases hm with e | e
      · rw [e, sub_eq_add_neg, EReal.neg_top]; exact Or.inr (EReal.add_bot _)
      · rw [e, sub_eq_add_neg, EReal.neg_bot]
        generalize x k = y
        induction y using EReal.rec with
        | bot => exact Or.inr (EReal.bot_add _)
        | top => exact Or.inl rfl
        | coe r => exact Or.inl (EReal.coe_add_top r)
    rcases hd with e | e <;> rw [e] <;> rfl
  unfold variance
  rw [sum_top hq]
  exact div_infinite (Or.inl rfl)

/-- Normalized entries are finite, whatever the row. -/
theorem isReal_ln_any {g b : Fin 256 → EReal} (hg : ∀ k, IsReal (g k)) (hb : ∀ k, IsReal (b k)) (x : Fin 256 → EReal)
    (k : Fin 256) : IsReal (ln g b x k) := by
  by_cases hx : ∀ k, IsReal (x k)
  · exact isReal_ln hg hb hx k
  · obtain ⟨e, -, he⟩ := bitsEps
    unfold ln
    rw [variance_infinite hx, he, EReal.top_add_coe]
    have h0 : Ideal.div (x k - mean x) (Ideal.sqrt ⊤) = 0 := by
      show Ideal.div (x k - mean x) ⊤ = 0
      unfold Ideal.div
      rw [if_neg (by simp), EReal.inv_top, mul_zero]
    rw [h0, zero_mul, zero_add]
    exact hb k

/-- The weights the scores depend on are finite: the first norm's and the projection's query and key columns. -/
structure Params.Fin' (P : Params) : Prop where
  g1 : ∀ k, IsReal (P.g1 k)
  b1 : ∀ k, IsReal (P.b1 k)
  wqkv : ∀ k j, j.val < 512 → IsReal (P.wqkv k j)

variable {P : Params} (hP : P.Fin')
include hP

/-- Queries and keys are finite, whatever the row. -/
theorem isReal_qkv (x : Fin 256 → EReal) (j : Fin 768) (hj : j.val < 512) : IsReal (qkv P x j) :=
  IsReal.sum _ _ fun k => (isReal_ln_any hP.g1 hP.b1 x k).mul (hP.wqkv k j hj)

omit hP in
theorem isReal_score {q k : Fin 256 → EReal} (hq : ∀ c, IsReal (q c)) (hk : ∀ c, IsReal (k c)) : IsReal (score q k) :=
  (IsReal.sum _ _ fun c => (hq c).mul (hk c)).mul isReal_scale

/-! ## Masked attention is attention over the rows kept -/

omit hP in
/-- The greatest of finitely many finite scores is finite. -/
theorem isReal_fold_max {ι : Type} [Fintype ι] (i : ι) (s : ι → EReal) (hs : ∀ t, IsReal (s t)) :
    IsReal (Finset.univ.fold max (⊥ : EReal) s) := by
  obtain ⟨j, -, hj⟩ := Finset.exists_max_image Finset.univ s ⟨i, Finset.mem_univ _⟩
  have : Finset.univ.fold max (⊥ : EReal) s = s j := le_antisymm
    ((Finset.fold_max_le _).mpr ⟨bot_le, fun x hx => hj x hx⟩)
    ((Finset.le_fold_max _).mpr (Or.inr ⟨j, Finset.mem_univ _, le_refl _⟩))
  rw [this]
  exact hs j

omit hP in
/-- The weights of a softmax of finite scores: their denominator is a positive number. -/
theorem denom_pos {ι : Type} [Fintype ι] (i : ι) (s : ι → EReal) (hs : ∀ t, IsReal (s t)) (m : EReal) (hm : IsReal m) :
    ∃ S : ℝ, 0 < S ∧ ∑ t, Ideal.exp (s t - m) = (S : EReal) := by
  have h : ∀ t, IsReal (s t - m) := fun t => (hs t).sub hm
  choose d hd using h
  refine ⟨∑ t, Real.exp (d t), Finset.sum_pos (fun t _ => Real.exp_pos _) ⟨i, Finset.mem_univ _⟩, ?_⟩
  rw [coe_sum]
  exact Finset.sum_congr rfl fun t _ => by rw [hd]; rfl

omit hP in
/-- A softmax with every score outside the image of `σ` at minus infinity is the softmax over `σ`'s places. -/
theorem mix_masked {N : Nat} (σ : Fin 16 → Fin N) (hσ : Function.Injective σ) (M : Fin N → Prop) [∀ n, Decidable (M n)]
    (hM : ∀ n, M n ↔ ∃ t, σ t = n) (s : Fin N → EReal) (hs : ∀ n, IsReal (s n)) (v : Fin N → Fin 256 → EReal) (c : Fin 256) :
    mix (fun n => if M n then s n else ⊥) v c = mix (fun t => s (σ t)) (fun t => v (σ t)) c := by
  have hin : ∀ t, (if M (σ t) then s (σ t) else ⊥) = s (σ t) := fun t => if_pos ((hM _).mpr ⟨t, rfl⟩)
  have hmax : Finset.univ.fold max (⊥ : EReal) (fun n => if M n then s n else ⊥)
      = Finset.univ.fold max (⊥ : EReal) (fun t => s (σ t)) := by
    apply le_antisymm
    · refine (Finset.fold_max_le _).mpr ⟨bot_le, fun n _ => ?_⟩
      by_cases h : M n
      · obtain ⟨t, rfl⟩ := (hM n).mp h
        rw [hin]
        exact (Finset.le_fold_max _).mpr (Or.inr ⟨t, Finset.mem_univ _, le_refl _⟩)
      · rw [if_neg h]; exact bot_le
    · refine (Finset.fold_max_le _).mpr ⟨bot_le, fun t _ => ?_⟩
      exact (Finset.le_fold_max _).mpr (Or.inr ⟨σ t, Finset.mem_univ _, (hin t).ge⟩)
  have hm := isReal_fold_max (0 : Fin 16) (fun t => s (σ t)) fun t => hs _
  obtain ⟨S, hS, hden⟩ := denom_pos (0 : Fin 16) (fun t => s (σ t)) (fun t => hs _) _ hm
  have hout : ∀ n, (∀ t, σ t ≠ n) → Ideal.exp ((if M n then s n else ⊥) - Finset.univ.fold max (⊥ : EReal) (fun t => s (σ t))) = 0 :=
    fun n hn => by
      rw [if_neg (fun h => by obtain ⟨t, ht⟩ := (hM n).mp h; exact hn t ht), EReal.bot_sub]
      rfl
  have hsum : ∑ n, Ideal.exp ((if M n then s n else ⊥) - Finset.univ.fold max (⊥ : EReal) (fun t => s (σ t)))
      = ∑ t, Ideal.exp (s (σ t) - Finset.univ.fold max (⊥ : EReal) (fun t => s (σ t))) := by
    symm
    refine Finset.sum_of_injOn σ (hσ.injOn) (fun _ _ => Finset.mem_coe.mpr (Finset.mem_univ _)) (fun n _ hn => hout n fun t ht => hn ⟨t, by simp, ht⟩) fun t _ => ?_
    rw [hin]
  unfold mix
  rw [hmax, hsum, hden]
  symm
  refine Finset.sum_of_injOn σ (hσ.injOn) (fun _ _ => Finset.mem_coe.mpr (Finset.mem_univ _)) (fun n _ hn => ?_) fun t _ => ?_
  · rw [hout n fun t ht => hn ⟨t, by simp, ht⟩]
    have : Ideal.div 0 (S : EReal) = 0 := by
      rw [show (0 : EReal) = ((0 : ℝ) : EReal) from rfl, div_coe _ _ hS.ne', zero_div]
    rw [this, zero_mul]
  · simp only [hin]

/-- Where the weights the scores depend on are finite the masked layer is the layer over the rows kept. -/
theorem layerM_eq_layerS (σ : Fin 4096 → Fin 16 → Fin 4096) (hσ : ∀ r, Function.Injective (σ r))
    (M : Fin 4096 → Fin 4096 → Prop) [∀ r n, Decidable (M r n)] (hM : ∀ r n, M r n ↔ ∃ t, σ r t = n)
    (X : Fin 4096 → Fin 256 → EReal) : layerM M P X = layerS σ P X := by
  funext r
  unfold layerM layerS
  congr 2
  funext c
  exact mix_masked (σ r) (hσ r) (M r) (hM r) (fun n => score (fun c => qkv P (X r) (qcol c)) (fun c => qkv P (X n) (kcol c)))
    (fun n => isReal_score (fun c => isReal_qkv hP (X r) _ (qcol_lt c)) fun c => isReal_qkv hP (X n) _ (kcol_lt c))
    (fun n c => qkv P (X n) (vcol c)) c

end Cert.Proof

end
-- ==== Proof.Blocks.lean ====
/-
  What one block of rows computes, in the layer's terms: the projection kernel's three outputs are the row's query,
  key and value, and the attention kernel's output is the row after attention and perceptron, with the rows its mask
  does not mark masked.
-/
module

public import proofs.«01_k».proof.Proof.Gen.KernelIdeal.Frame.Region1
public import proofs.«01_k».proof.Proof.Gen.KernelIdeal.Frame.Region2
public import proofs.«01_k».proof.Proof.Spec
public import Idealize.ShloMosaic.Lib.Pointwise
public import Idealize.ShloMosaic.Lib.Pipeline.ValueKit
public import Idealize.ShloMosaic.PureOps.Ideal.Laws
public import Idealize.ShloMosaic.Lib.IdealHost

@[expose] public section

set_option maxRecDepth 16384

noncomputable section

namespace Cert.Proof

open Idealize.ShloMosaic Cert.KernelIdeal Cert.KernelIdeal.Gen Cert.KernelIdeal.Facts

/-- The projection of a normalized block, at an index. -/
theorem project_at (x : Vec Ideal S256x256 .f32) (g b : Vec Ideal S1x256 .f32) (w : Vec Ideal S256x768 .f32)
    (r : Fin 256) (c : Fin 768) :
    k1_pay1 x g b w (ix2 r c) = ∑ k, ln (fun k => g (ix2 0 k)) (fun k => b (ix2 0 k)) (fun k => x (ix2 r k)) k * w (ix2 k c) := by
  unfold k1_pay1 ln variance mean
  pointwise

/-- The block's query output holds the query columns of its projection. -/
theorem out1_q (x0 : Vec Ideal S256x256 .f32) (x1 x2 : Vec Ideal S1x256 .f32) (x3 : Vec Ideal S256x768 .f32) (r c : Fin 256) :
    out1_4 x0 x1 x2 x3 (ix2 r c) = k1_pay1 x0 x1 x2 x3 (ix2 r (qcol c)) := by
  frame_out
  unfold k1_pay2
  pointwise
  rfl

/-- The block's key output holds the key columns of its projection. -/
theorem out1_k (x0 : Vec Ideal S256x256 .f32) (x1 x2 : Vec Ideal S1x256 .f32) (x3 : Vec Ideal S256x768 .f32) (r c : Fin 256) :
    out1_5 x0 x1 x2 x3 (ix2 r c) = k1_pay1 x0 x1 x2 x3 (ix2 r (kcol c)) := by
  frame_out
  unfold k1_pay3
  pointwise
  rfl

/-- The block's value output holds the value columns of its projection. -/
theorem out1_v (x0 : Vec Ideal S256x256 .f32) (x1 x2 : Vec Ideal S1x256 .f32) (x3 : Vec Ideal S256x768 .f32) (r c : Fin 256) :
    out1_6 x0 x1 x2 x3 (ix2 r c) = k1_pay1 x0 x1 x2 x3 (ix2 r (vcol c)) := by
  frame_out
  unfold k1_pay4
  pointwise
  rfl

/-- The mask's named constant is minus infinity. -/
theorem mask_bot : Named.named (F := Ideal) (φ := .f32) κ "mask" 0xF149F2CA#32 = (⊥ : EReal) :=
  IdealRules.named_const.ideal_named_scalar _ _ _ _ rfl

/-- The pattern of minus infinity. -/
theorem negInfBits : Ideal.ofBits .f32 0xFF800000#32 = (⊥ : EReal) := by simp [Ideal.ofBits, Ideal.ieee]

/-- The row after attention: the mixture of the values by the masked scores, projected and added to the row. -/
theorem attend_at (P : Params) (M : Fin 4096 → Prop) [∀ n, Decidable (M n)] (q : Vec Ideal S256x256 .f32)
    (k v : Vec Ideal S4096x256 .f32) (mk : Vec Ideal S256x4096 .i8) (wp : Vec Ideal S256x256 .f32) (bp : Vec Ideal S1x256 .f32)
    (x : Vec Ideal S256x256 .f32) (r c : Fin 256)
    (hM : ∀ n, (0 : EReal) < (((mk (ix2 r n)).toInt : ℝ) : EReal) ↔ M n) (hwp : ∀ k c, wp (ix2 k c) = P.wp k c)
    (hbp : ∀ c, bp (ix2 0 c) = P.bp c) :
    k2_pay2 q k mk v wp bp x (ix2 r c) = afterAttn P (fun c => x (ix2 r c)) (mix
      (fun n => if M n then score (fun c => q (ix2 r c)) (fun c => k (ix2 n c)) else ⊥) (fun n c => v (ix2 n c))) c := by
  unfold k2_pay2 afterAttn mix score
  simp only [← hwp, ← hbp, ← hM]
  pointwise
  simp only [mask_bot, negInfBits]
  rfl

/-- The row after the perceptron. -/
theorem mlp_at (P : Params) (y : FVec Ideal S256x256 .f32) (g b : Vec Ideal S1x256 .f32) (w1 : Vec Ideal S256x1024 .f32)
    (c1 : Vec Ideal S1x1024 .f32) (w2 : Vec Ideal S1024x256 .f32) (c2 : Vec Ideal S1x256 .f32) (r c : Fin 256)
    (hg : ∀ k, g (ix2 0 k) = P.g2 k) (hb : ∀ k, b (ix2 0 k) = P.b2 k) (hw1 : ∀ k j, w1 (ix2 k j) = P.w1 k j)
    (hc1 : ∀ j, c1 (ix2 0 j) = P.c1 j) (hw2 : ∀ j k, w2 (ix2 j k) = P.w2 j k) (hc2 : ∀ k, c2 (ix2 0 k) = P.c2 k) :
    k2_pay1 y (k2_pay3 y g b w1 c1) (k2_pay4 w2) c2 (ix2 r c) = afterMlp P (fun c => y (ix2 r c)) c := by
  unfold k2_pay1 k2_pay3 k2_pay4 afterMlp gelu hidden ln variance mean
  simp only [← hg, ← hb, ← hw1, ← hc1, ← hw2, ← hc2]
  pointwise
  rfl

/-- The attention kernel's block: the layer's row. -/
theorem out2_at (P : Params) (M : Fin 4096 → Prop) [∀ n, Decidable (M n)] (x0 : Vec Ideal S256x256 .f32)
    (x1 x2 : Vec Ideal S4096x256 .f32) (x3 : Vec Ideal S256x4096 .i8) (x4 x5 : Vec Ideal S256x256 .f32)
    (x6 x7 x8 : Vec Ideal S1x256 .f32) (x9 : Vec Ideal S256x1024 .f32) (x10 : Vec Ideal S1x1024 .f32)
    (x11 : Vec Ideal S1024x256 .f32) (x12 : Vec Ideal S1x256 .f32) (r c : Fin 256)
    (hM : ∀ n, (0 : EReal) < (((x3 (ix2 r n)).toInt : ℝ) : EReal) ↔ M n) (hwp : ∀ k c, x5 (ix2 k c) = P.wp k c)
    (hbp : ∀ c, x6 (ix2 0 c) = P.bp c)
    (hg : ∀ k, x7 (ix2 0 k) = P.g2 k) (hb : ∀ k, x8 (ix2 0 k) = P.b2 k) (hw1 : ∀ k j, x9 (ix2 k j) = P.w1 k j)
    (hc1 : ∀ j, x10 (ix2 0 j) = P.c1 j) (hw2 : ∀ j k, x11 (ix2 j k) = P.w2 j k) (hc2 : ∀ k, x12 (ix2 0 k) = P.c2 k) :
    out2_13 x0 x1 x2 x3 x4 x5 x6 x7 x8 x9 x10 x11 x12 (ix2 r c) = afterMlp P (afterAttn P (fun c => x4 (ix2 r c)) (mix
      (fun n => if M n then score (fun c => x0 (ix2 r c)) (fun c => x1 (ix2 n c)) else ⊥) (fun n c => x2 (ix2 n c)))) c := by
  unfold_out out2_13
  frame_out
  rw [mlp_at P _ _ _ _ _ _ _ r c hg hb hw1 hc1 hw2 hc2]
  congr 1
  funext k
  exact attend_at P M _ _ _ _ _ _ _ r k hM hwp hbp

end Cert.Proof

end
-- ==== Proof.Weights.lean ====
/-
  A layer's weights among the arguments, and that the host's slices of the arguments hold them.
-/
module

public import proofs.«01_k».proof.Proof.Gen.KernelIdeal.Launch
public import proofs.«01_k».proof.Proof.Spec
public import Idealize.ShloMosaic.Lib.Pointwise
public import Idealize.ShloMosaic.Lib.StableHlo.RunRead

@[expose] public section

set_option maxRecDepth 16384

noncomputable section

namespace Cert.Proof

open Idealize.ShloMosaic Idealize.ShloMosaic.TcCoe

/-- Layer `l`'s weights, read off the stacked arguments. -/
def weights (ln1g ln1b : FVec Ideal ⟨2, ![4, 256]⟩ .f32) (wqkv : FVec Ideal ⟨3, ![4, 256, 768]⟩ .f32)
    (wproj : FVec Ideal ⟨3, ![4, 256, 256]⟩ .f32) (bproj ln2g ln2b : FVec Ideal ⟨2, ![4, 256]⟩ .f32)
    (w1 : FVec Ideal ⟨3, ![4, 256, 1024]⟩ .f32) (b1 : FVec Ideal ⟨2, ![4, 1024]⟩ .f32)
    (w2 : FVec Ideal ⟨3, ![4, 1024, 256]⟩ .f32) (b2 : FVec Ideal ⟨2, ![4, 256]⟩ .f32) (l : Fin 4) : Params where
  g1 k := ln1g (ix2 l k)
  b1 k := ln1b (ix2 l k)
  wqkv k j := wqkv (ix3 l k j)
  wp k j := wproj (ix3 l k j)
  bp k := bproj (ix2 l k)
  g2 k := ln2g (ix2 l k)
  b2 k := ln2b (ix2 l k)
  w1 k j := w1 (ix3 l k j)
  c1 j := b1 (ix2 l j)
  w2 j k := w2 (ix3 l j k)
  c2 k := b2 (ix2 l k)

/-- The arrays a projection call is given hold a layer's weights. -/
structure ProjArgs (P : Params) (g b : FVec Ideal ⟨2, ![1, 256]⟩ .f32) (w : FVec Ideal ⟨2, ![256, 768]⟩ .f32) : Prop where
  g : ∀ k, g (ix2 0 k) = P.g1 k
  b : ∀ k, b (ix2 0 k) = P.b1 k
  w : ∀ k j, w (ix2 k j) = P.wqkv k j

/-- The arrays an attention call is given hold a layer's weights. -/
structure AttnArgs (P : Params) (wp : FVec Ideal ⟨2, ![256, 256]⟩ .f32) (bp g b : FVec Ideal ⟨2, ![1, 256]⟩ .f32)
    (w1 : FVec Ideal ⟨2, ![256, 1024]⟩ .f32) (c1 : FVec Ideal ⟨2, ![1, 1024]⟩ .f32) (w2 : FVec Ideal ⟨2, ![1024, 256]⟩ .f32)
    (c2 : FVec Ideal ⟨2, ![1, 256]⟩ .f32) : Prop where
  wp : ∀ k j, wp (ix2 k j) = P.wp k j
  bp : ∀ k, bp (ix2 0 k) = P.bp k
  g : ∀ k, g (ix2 0 k) = P.g2 k
  b : ∀ k, b (ix2 0 k) = P.b2 k
  w1 : ∀ k j, w1 (ix2 k j) = P.w1 k j
  c1 : ∀ j, c1 (ix2 0 j) = P.c1 j
  w2 : ∀ j k, w2 (ix2 j k) = P.w2 j k
  c2 : ∀ k, c2 (ix2 0 k) = P.c2 k

section Kernel

open Cert.KernelIdeal Cert.KernelIdeal.Gen Cert.KernelIdeal.Facts

variable (U : Valuation τ sig (Elt Ideal))

/-- Layer `l`'s weights among the kernel's arguments. -/
def argWeights (l : Fin 4) : Params :=
  weights (U (Proc.devRef .tc main_arg2)) (U (Proc.devRef .tc main_arg3)) (U (Proc.devRef .tc main_arg4))
    (U (Proc.devRef .tc main_arg5)) (U (Proc.devRef .tc main_arg6)) (U (Proc.devRef .tc main_arg7))
    (U (Proc.devRef .tc main_arg8)) (U (Proc.devRef .tc main_arg9)) (U (Proc.devRef .tc main_arg10))
    (U (Proc.devRef .tc main_arg11)) (U (Proc.devRef .tc main_arg12)) l

/-- The points transposed. -/
theorem host0 (x : Fin 3) (n : Fin 4096) :
    StableHlo.after hostOps0 U (Proc.devRef .tc main_v0) (ix2 x n) = U (Proc.devRef .tc main_arg0) (ix2 n x) := by
  unfold hostOps0
  after_reads_simp
  pointwise

/-- Layer 1's projection call is given that layer's slices of the arguments. -/
theorem host1 : ProjArgs (argWeights U 0) (StableHlo.after hostOps1 U (Proc.devRef .tc main_v4))
    (StableHlo.after hostOps1 U (Proc.devRef .tc main_v7))
    (StableHlo.after hostOps1 U (Proc.devRef .tc main_v9)) := by
  constructor <;> intros <;> (unfold hostOps1; after_reads_simp; pointwise; rfl)
/-- So is its attention call. -/
theorem host2 : AttnArgs (argWeights U 0) (StableHlo.after hostOps2 U (Proc.devRef .tc main_v12)) (StableHlo.after hostOps2 U (Proc.devRef .tc main_v15))
    (StableHlo.after hostOps2 U (Proc.devRef .tc main_v18)) (StableHlo.after hostOps2 U (Proc.devRef .tc main_v21))
    (StableHlo.after hostOps2 U (Proc.devRef .tc main_v23)) (StableHlo.after hostOps2 U (Proc.devRef .tc main_v26))
    (StableHlo.after hostOps2 U (Proc.devRef .tc main_v28)) (StableHlo.after hostOps2 U (Proc.devRef .tc main_v31)) := by
  constructor <;> intros <;> (unfold hostOps2; after_reads_simp; pointwise; rfl)

/-- Layer 2's projection call is given that layer's slices of the arguments. -/
theorem host3 : ProjArgs (argWeights U 1) (StableHlo.after hostOps3 U (Proc.devRef .tc main_v35))
    (StableHlo.after hostOps3 U (Proc.devRef .tc main_v38))
    (StableHlo.after hostOps3 U (Proc.devRef .tc main_v40)) := by
  constructor <;> intros <;> (unfold hostOps3; after_reads_simp; pointwise; rfl)
/-- So is its attention call. -/
theorem host4 : AttnArgs (argWeights U 1) (StableHlo.after hostOps4 U (Proc.devRef .tc main_v43)) (StableHlo.after hostOps4 U (Proc.devRef .tc main_v46))
    (StableHlo.after hostOps4 U (Proc.devRef .tc main_v49)) (StableHlo.after hostOps4 U (Proc.devRef .tc main_v52))
    (StableHlo.after hostOps4 U (Proc.devRef .tc main_v54)) (StableHlo.after hostOps4 U (Proc.devRef .tc main_v57))
    (StableHlo.after hostOps4 U (Proc.devRef .tc main_v59)) (StableHlo.after hostOps4 U (Proc.devRef .tc main_v62)) := by
  constructor <;> intros <;> (unfold hostOps4; after_reads_simp; pointwise; rfl)

/-- Layer 3's projection call is given that layer's slices of the arguments. -/
theorem host5 : ProjArgs (argWeights U 2) (StableHlo.after hostOps5 U (Proc.devRef .tc main_v66))
    (StableHlo.after hostOps5 U (Proc.devRef .tc main_v69))
    (StableHlo.after hostOps5 U (Proc.devRef .tc main_v71)) := by
  constructor <;> intros <;> (unfold hostOps5; after_reads_simp; pointwise; rfl)
/-- So is its attention call. -/
theorem host6 : AttnArgs (argWeights U 2) (StableHlo.after hostOps6 U (Proc.devRef .tc main_v74)) (StableHlo.after hostOps6 U (Proc.devRef .tc main_v77))
    (StableHlo.after hostOps6 U (Proc.devRef .tc main_v80)) (StableHlo.after hostOps6 U (Proc.devRef .tc main_v83))
    (StableHlo.after hostOps6 U (Proc.devRef .tc main_v85)) (StableHlo.after hostOps6 U (Proc.devRef .tc main_v88))
    (StableHlo.after hostOps6 U (Proc.devRef .tc main_v90)) (StableHlo.after hostOps6 U (Proc.devRef .tc main_v93)) := by
  constructor <;> intros <;> (unfold hostOps6; after_reads_simp; pointwise; rfl)

/-- Layer 4's projection call is given that layer's slices of the arguments. -/
theorem host7 : ProjArgs (argWeights U 3) (StableHlo.after hostOps7 U (Proc.devRef .tc main_v97))
    (StableHlo.after hostOps7 U (Proc.devRef .tc main_v100))
    (StableHlo.after hostOps7 U (Proc.devRef .tc main_v102)) := by
  constructor <;> intros <;> (unfold hostOps7; after_reads_simp; pointwise; rfl)
/-- So is its attention call. -/
theorem host8 : AttnArgs (argWeights U 3) (StableHlo.after hostOps8 U (Proc.devRef .tc main_v105)) (StableHlo.after hostOps8 U (Proc.devRef .tc main_v108))
    (StableHlo.after hostOps8 U (Proc.devRef .tc main_v111)) (StableHlo.after hostOps8 U (Proc.devRef .tc main_v114))
    (StableHlo.after hostOps8 U (Proc.devRef .tc main_v116)) (StableHlo.after hostOps8 U (Proc.devRef .tc main_v119))
    (StableHlo.after hostOps8 U (Proc.devRef .tc main_v121)) (StableHlo.after hostOps8 U (Proc.devRef .tc main_v124)) := by
  constructor <;> intros <;> (unfold hostOps8; after_reads_simp; pointwise; rfl)

end Kernel

end Cert.Proof

end
-- ==== Proof.Regions.lean ====
/-
  What the four layers' calls share: a block's projected row and its row after attention and perceptron in the
  layer's terms, and where a block's rows sit among all rows.
-/
module

public import proofs.«01_k».proof.Proof.Blocks
public import proofs.«01_k».proof.Proof.Weights

@[expose] public section

set_option maxRecDepth 16384

noncomputable section

namespace Cert.Proof

open Idealize.ShloMosaic Idealize.ShloMosaic.TcCoe Cert.KernelIdeal Cert.KernelIdeal.Gen Cert.KernelIdeal.Facts

/-- Row `r` of block `t`, among all rows. -/
def blockRow (t : Fin 16) (r : Fin 256) : Fin 4096 := ⟨t.val * 256 + r.val, by omega⟩

/-- Step `t`'s blocks of a projection call: the rows' block and the whole weight arrays. -/
structure ProjBlock (t : Fin 16) (A : FVec Ideal S4096x256 .f32) (g b : FVec Ideal S1x256 .f32) (w : FVec Ideal S256x768 .f32)
    (x : Vec Ideal S256x256 .f32) (x1 x2 : Vec Ideal S1x256 .f32) (x3 : Vec Ideal S256x768 .f32) : Prop where
  rows : ∀ r k, x (ix2 r k) = A (ix2 (blockRow t r) k)
  g : x1 = g
  b : x2 = b
  w : x3 = w

section Proj

variable {P : Params} {X : Fin 4096 → Fin 256 → EReal} {t : Fin 16} {A : FVec Ideal S4096x256 .f32} {g b : FVec Ideal S1x256 .f32}
  {w : FVec Ideal S256x768 .f32} {x : Vec Ideal S256x256 .f32} {x1 x2 : Vec Ideal S1x256 .f32} {x3 : Vec Ideal S256x768 .f32}
  (h : ProjBlock t A g b w x x1 x2 x3) (hA : ∀ r k, A (ix2 r k) = X r k) (hP : ProjArgs P g b w) (r k : Fin 256)
include h hA hP

/-- A block's projected row is the layer's. -/
theorem ProjBlock.row (j : Fin 768) : k1_pay1 x x1 x2 x3 (ix2 r j) = qkv P (X (blockRow t r)) j := by
  obtain ⟨h0, rfl, rfl, rfl⟩ := h
  rw [project_at]
  unfold qkv
  simp only [h0, hA, hP.g, hP.b, hP.w]

/-- The query block's row. -/
theorem ProjBlock.query : out1_4 x x1 x2 x3 (ix2 r k) = qkv P (X (blockRow t r)) (qcol k) := (out1_q _ _ _ _ r k).trans (h.row hA hP r _)
/-- The key block's row. -/
theorem ProjBlock.key : out1_5 x x1 x2 x3 (ix2 r k) = qkv P (X (blockRow t r)) (kcol k) := (out1_k _ _ _ _ r k).trans (h.row hA hP r _)
/-- The value block's row. -/
theorem ProjBlock.value : out1_6 x x1 x2 x3 (ix2 r k) = qkv P (X (blockRow t r)) (vcol k) := (out1_v _ _ _ _ r k).trans (h.row hA hP r _)

end Proj

/-- The rows array, the query, key and value arrays, and the mask array a layer's attention call is given. -/
structure AttnRows (P : Params) (X : Fin 4096 → Fin 256 → EReal) (M : Fin 4096 → Fin 4096 → Prop)
    (Q K V : FVec Ideal S4096x256 .f32) (mk : Vec Ideal S4096x4096 .i8) (A : FVec Ideal S4096x256 .f32) : Prop where
  q : Q = fun i => qkv P (X (i 0)) (qcol (i 1))
  k : K = fun i => qkv P (X (i 0)) (kcol (i 1))
  v : V = fun i => qkv P (X (i 0)) (vcol (i 1))
  mask : ∀ r n, (0 : EReal) < (((BitVec.toInt (n := 8) (mk (ix2 r n)) : ℤ) : ℝ) : EReal) ↔ M r n
  rows : ∀ r k, A (ix2 r k) = X r k

/-- An attention call's row is the layer's: its blocks are the queries', mask's and rows' block and the other whole arrays. -/
theorem attn_row {P : Params} {X : Fin 4096 → Fin 256 → EReal} {M : Fin 4096 → Fin 4096 → Prop} [∀ r n, Decidable (M r n)]
    {Q K V : FVec Ideal S4096x256 .f32} {mk : Vec Ideal S4096x4096 .i8} {A : FVec Ideal S4096x256 .f32} (hR : AttnRows P X M Q K V mk A)
    {wp : FVec Ideal S256x256 .f32} {bp g b : FVec Ideal S1x256 .f32} {w1 : FVec Ideal S256x1024 .f32} {c1 : FVec Ideal S1x1024 .f32}
    {w2 : FVec Ideal S1024x256 .f32} {c2 : FVec Ideal S1x256 .f32} (hP : AttnArgs P wp bp g b w1 c1 w2 c2) (t : Fin 16)
    {x0 : Vec Ideal S256x256 .f32} {x1 x2 : Vec Ideal S4096x256 .f32} {x3 : Vec Ideal S256x4096 .i8} {x4 x5 : Vec Ideal S256x256 .f32}
    {x6 x7 x8 : Vec Ideal S1x256 .f32} {x9 : Vec Ideal S256x1024 .f32} {x10 : Vec Ideal S1x1024 .f32}
    {x11 : Vec Ideal S1024x256 .f32} {x12 : Vec Ideal S1x256 .f32}
    (h0 : ∀ r k, x0 (ix2 r k) = Q (ix2 (blockRow t r) k)) (h1 : x1 = K) (h2 : x2 = V)
    (h3 : ∀ r n, x3 (ix2 r n) = mk (ix2 (blockRow t r) n)) (h4 : ∀ r k, x4 (ix2 r k) = A (ix2 (blockRow t r) k))
    (h5 : x5 = wp) (h6 : x6 = bp) (h7 : x7 = g) (h8 : x8 = b) (h9 : x9 = w1) (h10 : x10 = c1) (h11 : x11 = w2) (h12 : x12 = c2)
    (r k : Fin 256) : out2_13 x0 x1 x2 x3 x4 x5 x6 x7 x8 x9 x10 x11 x12 (ix2 r k) = layerM M P X (blockRow t r) k := by
  subst h1 h2 h5 h6 h7 h8 h9 h10 h11 h12
  refine (out2_at P (M (blockRow t r)) x0 x1 x2 x3 x4 x5 x6 x7 x8 x9 x10 x11 x12 r k
    (fun n => (congrArg (fun b : BitVec 8 => (0 : EReal) < ((b.toInt : ℝ) : EReal)) (h3 r n)).to_iff.trans (hR.mask _ n))
    hP.wp hP.bp hP.g hP.b hP.w1 hP.c1 hP.w2 hP.c2).trans ?_
  simp only [h0, h4, hR.rows, hR.q, hR.k, hR.v]
  rfl

open Idealize.ShloMosaic.Pipeline in
/-- Where a block's element sits in its array, from its coordinates. -/
theorem emb_at {G : Grid} (w : Window sig G) (t : Fin G.N) (y : (w.xblock (G.coords t)).Idx) (i : w.shape.Idx)
    (h : ∀ a, w.index t a * w.size a + (y a).val = (i a).val) (hk : w.kind = .blocked := by rfl) : (w.rect t).emb y = i :=
  funext fun a => Fin.ext ((w.rect_emb_val t y a hk).trans (h a))

open Idealize.ShloMosaic.Pipeline in
/-- A block at index zero holds its array's first elements. -/
theorem emb_zero {G : Grid} (w : Window sig G) (t : Fin G.N) (y : (w.xblock (G.coords t)).Idx) (i : w.shape.Idx)
    (h0 : w.index t = fun _ => 0) (h : ∀ a, (y a).val = (i a).val) (hk : w.kind = .blocked := by rfl) : (w.rect t).emb y = i :=
  emb_at w t y i (fun a => by rw [h0, Nat.zero_mul, Nat.zero_add]; exact h a) hk

/-- A block whose rows are an array's rows at the block's place. -/
theorem block_rows {α : Type} (t : Fin 16) (out : S256x256.Idx → α) (G : S4096x256.Idx → α) (e : S256x256.Idx → S4096x256.Idx)
    (he : ∀ r k, e (ix2 r k) = ix2 (blockRow t r) k) (h : ∀ r k, out (ix2 r k) = G (ix2 (blockRow t r) k)) (y : S256x256.Idx) :
    out y = G (e y) := by
  obtain ⟨r, k, rfl⟩ : ∃ r k, y = ix2 r k := ⟨_, _, eq_ix2 y⟩
  rw [he, h]

/-- A row block's element sits in its block's rows. -/
theorem rows_coords {n : Nat} (t : Fin 16) (r : Fin 256) (k : Fin n) {ix : Fin 2 → Nat} (h : ix = ![t.val, 0]) (a : Fin 2) :
    ix a * (![256, n] : Fin 2 → Nat) a + (ix2 r k a).val = (ix2 (blockRow t r) k a).val := by
  subst h
  revert a
  exact Fin.forall_fin_two.mpr ⟨rfl, show 0 * n + k.val = k.val by omega⟩

end Cert.Proof

end
-- ==== Proof.Picks.lean ====
/-
  Choosing the least entries of a row one at a time: each round takes the first position of the least entry left
  and puts an infinity in its place. For a row of finite entries the positions taken are those a stable sort puts
  first.
-/
module

public import Idealize.ShloMosaic.Lib.SortPrefix
public import Mathlib.Data.EReal.Basic

@[expose] public section

noncomputable section

namespace Cert.Proof

open Idealize.ShloMosaic

variable {n : Nat}

/-- `c` is the first position of the row's least entry. -/
def IsFirst (d : Fin n → EReal) (c : Fin n) : Prop := (∀ k, d c ≤ d k) ∧ ∀ k, k < c → d c < d k

/-- A nonempty row has a first position of its least entry. -/
theorem exists_isFirst (c0 : Fin n) (d : Fin n → EReal) : ∃ c, IsFirst d c := by
  classical
  obtain ⟨a, -, ha⟩ := Finset.exists_min_image Finset.univ d ⟨c0, Finset.mem_univ _⟩
  have hne : (Finset.univ.filter fun c => ∀ k, d c ≤ d k).Nonempty := ⟨a, by simpa using fun k => ha k (Finset.mem_univ _)⟩
  obtain ⟨c, hc, hmin⟩ := Finset.exists_min_image _ id hne
  have hc' : ∀ k, d c ≤ d k := by simpa using hc
  refine ⟨c, hc', fun k hk => lt_of_le_of_ne (hc' k) fun e => ?_⟩
  have hk' : ∀ j, d k ≤ d j := fun j => e ▸ hc' j
  exact absurd (hmin k (by simpa using hk')) (not_le.mpr hk)

/-- There is only one such position. -/
theorem IsFirst.unique {d : Fin n → EReal} {a b : Fin n} (ha : IsFirst d a) (hb : IsFirst d b) : a = b := by
  rcases lt_trichotomy a b with h | h | h
  · exact absurd (ha.1 b) (not_le.mpr (hb.2 a h))
  · exact h
  · exact absurd (hb.1 a) (not_le.mpr (ha.2 b h))

/-- The first position of the least entry of a row of positive length. -/
def first [NeZero n] (d : Fin n → EReal) : Fin n := (exists_isFirst 0 d).choose

theorem first_spec [NeZero n] (d : Fin n → EReal) : IsFirst d (first d) := (exists_isFirst 0 d).choose_spec

/-- The row after a round: the position taken holds an infinity. -/
def strike [NeZero n] (d : Fin n → EReal) : Fin n → EReal := fun c => if c = first d then ⊤ else d c

/-- What is left of the row after `t` rounds. -/
def left [NeZero n] (d : Fin n → EReal) : Nat → Fin n → EReal
  | 0 => d
  | t + 1 => strike (left d t)

/-- The position round `t` takes. -/
def pick [NeZero n] (d : Fin n → EReal) (t : Nat) : Fin n := first (left d t)

variable [NeZero n] {d : Fin n → EReal}

/-- A position not taken before round `t` still holds its own entry there. -/
theorem left_of_not (t : Nat) (c : Fin n) (h : ∀ s, s < t → pick d s ≠ c) : left d t c = d c := by
  induction t with
  | zero => rfl
  | succ t ih =>
    have hne : c ≠ first (left d t) := fun e => h t (Nat.lt_succ_self t) e.symm
    show (if c = first (left d t) then ⊤ else left d t c) = d c
    rw [if_neg hne]
    exact ih fun s hs => h s (Nat.lt_succ_of_lt hs)

/-- A position taken before round `t` holds an infinity there. -/
theorem left_of_pick (t s : Nat) (hs : s < t) : left d t (pick d s) = ⊤ := by
  induction t with
  | zero => exact absurd hs (Nat.not_lt_zero _)
  | succ t ih =>
    show (if pick d s = first (left d t) then ⊤ else left d t (pick d s)) = ⊤
    by_cases e : pick d s = first (left d t)
    · rw [if_pos e]
    · rw [if_neg e]
      rcases Nat.lt_succ_iff_lt_or_eq.mp hs with h | h
      · exact ih h
      · subst h; exact absurd rfl e

/-- While fewer positions are taken than there are, some position is not taken. -/
theorem exists_not_picked (t : Nat) (ht : t < n) : ∃ c : Fin n, ∀ s, s < t → pick d s ≠ c := by
  classical
  by_contra hcon
  push Not at hcon
  have hsub : (Finset.univ : Finset (Fin n)) ⊆ (Finset.range t).image (pick d) := fun c _ => by
    obtain ⟨s, hs, e⟩ := hcon c
    exact Finset.mem_image.mpr ⟨s, Finset.mem_range.mpr hs, e⟩
  have h1 := Finset.card_le_card hsub
  have h2 := Finset.card_image_le (s := Finset.range t) (f := pick d)
  rw [Finset.card_univ, Fintype.card_fin] at h1
  rw [Finset.card_range] at h2
  omega

/-- With finite entries the least of what is left is finite. -/
theorem left_pick_lt_top (hd : ∀ c, d c ≠ ⊤) (t : Nat) (ht : t < n) : left d t (pick d t) < ⊤ := by
  obtain ⟨c, hc⟩ := exists_not_picked (d := d) t ht
  refine lt_of_le_of_lt ((first_spec (left d t)).1 c) ?_
  rw [left_of_not t c hc]
  exact lt_top_iff_ne_top.mpr (hd c)

/-- No position is taken twice. -/
theorem pick_ne (hd : ∀ c, d c ≠ ⊤) (t : Nat) (ht : t < n) (s : Nat) (hs : s < t) : pick d s ≠ pick d t := fun e => by
  have h := left_pick_lt_top hd t ht
  rw [← e, left_of_pick t s hs] at h
  exact absurd h (lt_irrefl _)

/-- The entry a round takes is the row's own. -/
theorem left_pick (hd : ∀ c, d c ≠ ⊤) (t : Nat) (ht : t < n) : left d t (pick d t) = d (pick d t) :=
  left_of_not t _ fun s hs => pick_ne hd t ht s hs

/-- "`p` comes before `q`": the smaller entry, and of equal entries the smaller position. -/
def before (d : Fin n → EReal) (p q : Fin n) : Bool :=
  decide (d p < d q) || (decide (d p = d q) && decide (p < q))

theorem before_total (d : Fin n → EReal) : StrictTotalBefore (before d) :=
  StrictTotalBefore.of_key_then_position (κ := EReal) (fun a b => decide (a < b)) d (fun a => by simp)
    (fun a b c hab hbc => by simp only [decide_eq_true_eq] at *; exact lt_trans hab hbc)
    (fun a b => by simp only [decide_eq_true_eq]; exact lt_trichotomy a b)

/-- No position still free at round `t` comes before the one the round takes. -/
theorem not_before_pick (hd : ∀ c, d c ≠ ⊤) (t : Nat) (ht : t < n) (p : Fin n) (hp : ∀ s, s < t → pick d s ≠ p) :
    before d p (pick d t) = false := by
  have h1 := (first_spec (left d t)).1 p
  have h2 := (first_spec (left d t)).2 p
  change left d t (pick d t) ≤ _ at h1
  change p < pick d t → left d t (pick d t) < _ at h2
  rw [left_pick hd t ht, left_of_not t p hp] at h1 h2
  simp only [before, Bool.or_eq_false_iff, Bool.and_eq_false_iff, decide_eq_false_iff_not, not_lt]
  refine ⟨h1, ?_⟩
  by_cases h : p < pick d t
  · exact Or.inl (h2 h).ne'
  · exact Or.inr (not_lt.mp h)

/-- Inserting by the entries alone or by entries and then positions is the same where every position listed is larger. -/
theorem stableSort_entries (d : Fin n → EReal) (l : List (Fin n)) (hl : l.Pairwise (· < ·)) :
    stableSort (fun p q => decide (d p < d q)) l = stableSort (before d) l := by
  induction l with
  | nil => rfl
  | cons a l ih =>
    rw [List.pairwise_cons] at hl
    show insertBefore _ a (stableSort _ l) = insertBefore _ a (stableSort _ l)
    rw [ih hl.2]
    refine insertBefore_congr _ _ _ _ fun b hb => ?_
    have hb' := (perm_stableSort (before d) l).mem_iff.mp hb
    have := hl.1 b hb'
    simp [before, not_lt.mpr this.le]

/-- The stable sort by the entries alone puts the taken positions first, in the order they are taken. -/
theorem sortedFrom_eq_pick (hd : ∀ c, d c ≠ ⊤) {k : Nat} (hk : k ≤ n) (R : Fin n → Fin n → Bool)
    (hR : ∀ p q, R p q = decide (d p < d q)) (i : Fin k) :
    sortedFrom R (i.castLE hk) = pick d i.val := by
  have e : R = fun p q => decide (d p < d q) := by funext p q; exact hR p q
  have e2 : sortPositions n R = sortPositions n (before d) := by
    rw [e]; exact stableSort_entries d _ (List.pairwise_lt_finRange n)
  have e3 : sortedFrom R (i.castLE hk) = sortedFrom (before d) (i.castLE hk) := by
    unfold sortedFrom
    simp only [List.get_eq_getElem, e2]
    rfl
  rw [e3]
  refine (before_total d).sortedFrom_eq_of_prefix hk (fun i : Fin k => pick d i.val) ?_ ?_ ?_ i
  · intro a b hab
    by_contra hne
    rcases lt_or_gt_of_ne hne with h | h
    · exact pick_ne hd b.val (by omega) a.val h hab
    · exact pick_ne hd a.val (by omega) b.val h hab.symm
  · intro a b hab
    exact not_before_pick hd a.val (by omega) _ fun s hs => pick_ne hd b.val (by omega) s (by
      have : a.val < b.val := hab
      omega)
  · intro a p hp
    exact not_before_pick hd a.val (by omega) p fun s hs => hp ⟨s, by omega⟩

/-- The first `k` positions taken are all different. -/
theorem pick_injective (hd : ∀ c, d c ≠ ⊤) {k : Nat} (hk : k ≤ n) : Function.Injective fun i : Fin k => pick d i.val := by
  intro a b hab
  by_contra hne
  rcases lt_or_gt_of_ne hne with h | h
  · exact pick_ne hd b.val (by omega) a.val h hab
  · exact pick_ne hd a.val (by omega) b.val h hab.symm

end Cert.Proof

end
-- ==== Proof.Mask.lean ====
/-
  The neighbour kernel's sixteen rounds. A round finds each row's least entry, the first position holding it,
  marks that position in the mask and puts an infinity in its place; the printed body is sixteen of these rounds,
  and a mask entry is one exactly at the positions taken.
-/
module

public import proofs.«01_k».proof.Proof.Gen.KernelIdeal.Frame.Region0
public import proofs.«01_k».proof.Proof.Picks
public import Idealize.ShloMosaic.Lib.Pointwise
public import Idealize.ShloMosaic.PureOps.Ideal.Laws
public import Idealize.ShloMosaic.Lib.IdealHost
public import Idealize.ShloMosaic.Lib.SortNet.Extract
public import Mathlib.Data.Finset.Fold

@[expose] public section

set_option maxRecDepth 16384

noncomputable section

namespace Cert.Proof

open Idealize.ShloMosaic Cert.KernelIdeal Cert.KernelIdeal.Gen Cert.KernelIdeal.Facts

/-- The positions a round takes, from the entries left. -/
def hitV (d : FVec Ideal S256x4096 .f32) : IVec S256x4096 1 :=
  cmpi .eq (subi (iota .tc S256x4096 32 [1] iota_S256x4096_d1_w32)
    (broadcastTo S256x4096 (shapeCast S256x1 (multiReductionI .minsi [1] S256
      (select (cmpf .ole (subf d (broadcastTo S256x4096 (shapeCast S256x1
          (multiReduction .minimumf [1] S256 d 0x7F800000#32 reduces_S256x4096_S256 (.inl rfl) rfl)
          shapeCasts_S256_S256x1) broadcasts_S256x1_S256x4096)) (broadcast S256x4096 (Scalar.ofBits .f32 0x00000000#32)))
        (iota .tc S256x4096 32 [1] iota_S256x4096_d1_w32) (broadcast S256x4096 4096#32))
      2147483647#32 reduces_S256x4096_S256 rfl) shapeCasts_S256_S256x1) broadcasts_S256x1_S256x4096))
    (broadcast S256x4096 0#32)

/-- The entries left after `t` rounds. -/
def leftV (d : FVec Ideal S256x4096 .f32) : Nat → FVec Ideal S256x4096 .f32
  | 0 => d
  | t + 1 => select (hitV (leftV d t)) (broadcast S256x4096 (Scalar.ofBits .f32 0x7F800000#32)) (leftV d t)

/-- The mask after `t` rounds. -/
def maskV (d : FVec Ideal S256x4096 .f32) : Nat → FVec Ideal S256x4096 .f32
  | 0 => broadcast S256x4096 (Scalar.ofBits .f32 0x00000000#32)
  | t + 1 => select (hitV (leftV d t)) (broadcast S256x4096 (Scalar.ofBits .f32 0x3F800000#32)) (maskV d t)

section Printed

variable (x0 : Vec Ideal S256x3 .f32) (x1 : Vec Ideal S3x4096 .f32)

/-- The distances the block computes. -/
abbrev dist0 : FVec Ideal S256x4096 .f32 := k0_pay2 (View.ld x0 r0_0) (View.ld x1 r0_1)

theorem left1 : k0_pay48 x0 x1 = leftV (dist0 x0 x1) 1 := rfl
theorem mask1 : k0_pay4 (View.ld x0 r0_0) (View.ld x1 r0_1) = maskV (dist0 x0 x1) 1 := rfl
theorem hit1 : k0_pay8 (k0_pay47 x0 x1) (k0_pay49 x0 x1) (k0_pay50 x0 x1) = hitV (leftV (dist0 x0 x1) 1) := rfl

theorem left2 : k0_pay9 (k0_pay47 x0 x1) (k0_pay48 x0 x1) (k0_pay49 x0 x1) (k0_pay50 x0 x1) = leftV (dist0 x0 x1) 2 := by
  unfold k0_pay9; rw [hit1, left1]; rfl
theorem hit2 : k0_pay10 (k0_pay47 x0 x1) (k0_pay48 x0 x1) (k0_pay49 x0 x1) (k0_pay50 x0 x1) = hitV (leftV (dist0 x0 x1) 2) := by
  unfold k0_pay10; rw [left2]; rfl
theorem left3 : k0_pay51 x0 x1 = leftV (dist0 x0 x1) 3 := by
  unfold k0_pay51 k0_pay12; rw [hit2, left2]; rfl
theorem mask3 (m : FVec Ideal S256x4096 .f32) (hm : m = maskV (dist0 x0 x1) 1) :
    k0_pay11 (k0_pay47 x0 x1) m (k0_pay48 x0 x1) (k0_pay49 x0 x1) (k0_pay50 x0 x1) = maskV (dist0 x0 x1) 3 := by
  unfold k0_pay11; rw [hit1, hit2, hm]; rfl

theorem hit3 : k0_pay14 (k0_pay52 x0 x1) 0#32 = hitV (leftV (dist0 x0 x1) 3) := by
  have h : k0_pay12 (k0_pay47 x0 x1) (k0_pay48 x0 x1) (k0_pay49 x0 x1) (k0_pay50 x0 x1) = leftV (dist0 x0 x1) 3 := left3 x0 x1
  unfold k0_pay14 k0_pay52 k0_pay13; rw [h]; rfl
theorem left4 : k0_pay15 (k0_pay51 x0 x1) (k0_pay52 x0 x1) 0#32 = leftV (dist0 x0 x1) 4 := by
  unfold k0_pay15; rw [hit3, left3]; rfl
theorem hit4 : k0_pay16 (k0_pay47 x0 x1) (k0_pay51 x0 x1) (k0_pay52 x0 x1) 0#32 = hitV (leftV (dist0 x0 x1) 4) := by
  unfold k0_pay16; rw [left4]; rfl
theorem left5 : k0_pay17 (k0_pay47 x0 x1) (k0_pay51 x0 x1) (k0_pay52 x0 x1) 0#32 = leftV (dist0 x0 x1) 5 := by
  unfold k0_pay17; rw [hit4, left4]; rfl
theorem hit5 : k0_pay18 (k0_pay47 x0 x1) (k0_pay51 x0 x1) (k0_pay52 x0 x1) 0#32 = hitV (leftV (dist0 x0 x1) 5) := by
  unfold k0_pay18; rw [left5]; rfl
theorem left6 : k0_pay53 x0 x1 = leftV (dist0 x0 x1) 6 := by
  unfold k0_pay53 k0_pay20; rw [hit5, left5]; rfl
theorem mask6 (m : FVec Ideal S256x4096 .f32) (hm : m = maskV (dist0 x0 x1) 3) :
    k0_pay19 (k0_pay47 x0 x1) m (k0_pay51 x0 x1) (k0_pay52 x0 x1) 0#32 = maskV (dist0 x0 x1) 6 := by
  unfold k0_pay19; rw [hit3, hit4, hit5, hm]; rfl

theorem hit6 : k0_pay22 (k0_pay47 x0 x1) (k0_pay53 x0 x1) (k0_pay54 x0 x1) = hitV (leftV (dist0 x0 x1) 6) := by
  have h : k0_pay20 (k0_pay47 x0 x1) (k0_pay51 x0 x1) (k0_pay52 x0 x1) 0#32 = leftV (dist0 x0 x1) 6 := left6 x0 x1
  unfold k0_pay22 k0_pay54 k0_pay21; rw [left6, h]; rfl
theorem left7 : k0_pay23 (k0_pay47 x0 x1) (k0_pay53 x0 x1) (k0_pay54 x0 x1) = leftV (dist0 x0 x1) 7 := by
  unfold k0_pay23; rw [hit6, left6]; rfl
theorem hit7 : k0_pay24 (k0_pay47 x0 x1) (k0_pay53 x0 x1) (k0_pay54 x0 x1) = hitV (leftV (dist0 x0 x1) 7) := by
  unfold k0_pay24; rw [left7]; rfl
theorem left8 : k0_pay55 x0 x1 = leftV (dist0 x0 x1) 8 := by
  unfold k0_pay55 k0_pay26; rw [hit7, left7]; rfl
theorem mask8 (m : FVec Ideal S256x4096 .f32) (hm : m = maskV (dist0 x0 x1) 6) :
    k0_pay25 (k0_pay47 x0 x1) m (k0_pay53 x0 x1) (k0_pay54 x0 x1) = maskV (dist0 x0 x1) 8 := by
  unfold k0_pay25; rw [hit6, hit7, hm]; rfl

theorem hit8 : k0_pay28 (k0_pay47 x0 x1) (k0_pay56 x0 x1) = hitV (leftV (dist0 x0 x1) 8) := by
  have h : k0_pay26 (k0_pay47 x0 x1) (k0_pay53 x0 x1) (k0_pay54 x0 x1) = leftV (dist0 x0 x1) 8 := left8 x0 x1
  unfold k0_pay28 k0_pay56 k0_pay27; rw [h]; rfl
theorem left9 : k0_pay29 (k0_pay47 x0 x1) (k0_pay55 x0 x1) (k0_pay56 x0 x1) = leftV (dist0 x0 x1) 9 := by
  unfold k0_pay29; rw [hit8, left8]; rfl
theorem hit9 : k0_pay30 (k0_pay47 x0 x1) (k0_pay55 x0 x1) (k0_pay56 x0 x1) = hitV (leftV (dist0 x0 x1) 9) := by
  unfold k0_pay30; rw [left9]; rfl
theorem left10 : k0_pay57 x0 x1 = leftV (dist0 x0 x1) 10 := by
  unfold k0_pay57 k0_pay31; rw [hit9, left9]; rfl
theorem hit10 : k0_pay58 x0 x1 = hitV (leftV (dist0 x0 x1) 10) := by
  have h : k0_pay31 (k0_pay47 x0 x1) (k0_pay55 x0 x1) (k0_pay56 x0 x1) = leftV (dist0 x0 x1) 10 := left10 x0 x1
  unfold k0_pay58 k0_pay32; rw [h]; rfl
theorem mask11 (m : FVec Ideal S256x4096 .f32) (hm : m = maskV (dist0 x0 x1) 8) :
    k0_pay33 (k0_pay47 x0 x1) m (k0_pay55 x0 x1) (k0_pay56 x0 x1) = maskV (dist0 x0 x1) 11 := by
  have h : k0_pay32 (k0_pay47 x0 x1) (k0_pay55 x0 x1) (k0_pay56 x0 x1) = hitV (leftV (dist0 x0 x1) 10) := hit10 x0 x1
  unfold k0_pay33; rw [hit8, hit9, h, hm]; rfl

theorem left11 : k0_pay34 (k0_pay57 x0 x1) (k0_pay58 x0 x1) = leftV (dist0 x0 x1) 11 := by
  unfold k0_pay34; rw [hit10, left10]; rfl
theorem hit11 : k0_pay35 (k0_pay47 x0 x1) (k0_pay57 x0 x1) (k0_pay58 x0 x1) = hitV (leftV (dist0 x0 x1) 11) := by
  unfold k0_pay35; rw [left11]; rfl
theorem left12 : k0_pay36 (k0_pay47 x0 x1) (k0_pay57 x0 x1) (k0_pay58 x0 x1) = leftV (dist0 x0 x1) 12 := by
  unfold k0_pay36; rw [hit11, left11]; rfl
theorem hit12 : k0_pay37 (k0_pay47 x0 x1) (k0_pay57 x0 x1) (k0_pay58 x0 x1) = hitV (leftV (dist0 x0 x1) 12) := by
  unfold k0_pay37; rw [left12]; rfl
theorem mask13 (m : FVec Ideal S256x4096 .f32) (hm : m = maskV (dist0 x0 x1) 11) :
    k0_pay38 (k0_pay47 x0 x1) (k0_pay57 x0 x1) (k0_pay58 x0 x1) m = maskV (dist0 x0 x1) 13 := by
  unfold k0_pay38; rw [hit11, hit12, hm]; rfl
theorem left13 : k0_pay59 x0 x1 = leftV (dist0 x0 x1) 13 := by
  unfold k0_pay59 k0_pay39; rw [hit12, left12]; rfl

theorem hit13 : k0_pay42 (k0_pay47 x0 x1) (k0_pay60 x0 x1) (k0_pay61 x0 x1) = hitV (leftV (dist0 x0 x1) 13) := by
  have h : k0_pay39 (k0_pay47 x0 x1) (k0_pay57 x0 x1) (k0_pay58 x0 x1) = leftV (dist0 x0 x1) 13 := left13 x0 x1
  unfold k0_pay42 k0_pay60 k0_pay40; rw [h]; rfl
theorem left14 : k0_pay43 (k0_pay47 x0 x1) (k0_pay59 x0 x1) (k0_pay60 x0 x1) (k0_pay61 x0 x1) = leftV (dist0 x0 x1) 14 := by
  unfold k0_pay43; rw [hit13, left13]; rfl
theorem hit14 : k0_pay44 (k0_pay47 x0 x1) (k0_pay59 x0 x1) (k0_pay60 x0 x1) (k0_pay61 x0 x1) = hitV (leftV (dist0 x0 x1) 14) := by
  unfold k0_pay44; rw [left14]; rfl
theorem mask15 (m : FVec Ideal S256x4096 .f32) (hm : m = maskV (dist0 x0 x1) 13) :
    k0_pay45 (k0_pay47 x0 x1) m (k0_pay59 x0 x1) (k0_pay60 x0 x1) (k0_pay61 x0 x1) = maskV (dist0 x0 x1) 15 := by
  unfold k0_pay45; rw [hit13, hit14, hm]; rfl

/-- The block's store is the sixteen-round mask, narrowed. -/
theorem mask16 (m : FVec Ideal S256x4096 .f32) (hm : m = maskV (dist0 x0 x1) 15) :
    k0_pay1 m (k0_pay46 (k0_pay47 x0 x1) (k0_pay59 x0 x1) (k0_pay60 x0 x1) (k0_pay61 x0 x1)) 0#32
      = fptosi 8 (maskV (dist0 x0 x1) 16) := by
  have h : cmpi .eq (k0_pay46 (k0_pay47 x0 x1) (k0_pay59 x0 x1) (k0_pay60 x0 x1) (k0_pay61 x0 x1)) (broadcast S256x4096 0#32)
      = hitV (leftV (dist0 x0 x1) 15) := by
    unfold k0_pay46; rw [hit14, left14]; rfl
  unfold k0_pay1; dsimp only; rw [h, hm]; rfl

/-- What the body leaves in the mask's block: one store of the sixteen-round mask. -/
theorem out0_eq : out0_2 x0 x1 = View.canon [⟨r0_2, fptosi 8 (maskV (dist0 x0 x1) 16)⟩] := by
  unfold out0_2
  rw [mask16 x0 x1 _ (mask15 x0 x1 _ (mask13 x0 x1 _ (mask11 x0 x1 _ (mask8 x0 x1 _ (mask6 x0 x1 _
    (mask3 x0 x1 _ (mask1 x0 x1)))))))]

end Printed

/-! ## A round at an index -/

/-- The fold of the signed minimum is at most its start and every word, and is one of them. -/
theorem fold_minsi_spec {ι : Type} [DecidableEq ι] (s : Finset ι) (f : ι → BitVec 32) (b : BitVec 32) :
    (s.fold IntOp.minsi b f).toInt ≤ b.toInt ∧ (∀ k ∈ s, (s.fold IntOp.minsi b f).toInt ≤ (f k).toInt)
      ∧ (s.fold IntOp.minsi b f = b ∨ ∃ k ∈ s, s.fold IntOp.minsi b f = f k) := by
  induction s using Finset.induction_on with
  | empty => simp
  | insert a s ha ih =>
    obtain ⟨h1, h2, h3⟩ := ih
    rw [Finset.fold_insert ha]
    have e := SortNet.toInt_minsi (f a) (s.fold IntOp.minsi b f)
    refine ⟨by rw [e]; exact le_trans (min_le_right _ _) h1, fun k hk => ?_, ?_⟩
    · rw [e]
      rcases Finset.mem_insert.mp hk with rfl | hk
      · exact min_le_left _ _
      · exact le_trans (min_le_right _ _) (h2 k hk)
    · have hor : IntOp.minsi (f a) (s.fold IntOp.minsi b f) = f a
          ∨ IntOp.minsi (f a) (s.fold IntOp.minsi b f) = s.fold IntOp.minsi b f := by
        rcases min_choice (f a).toInt (s.fold IntOp.minsi b f).toInt with h | h
        · exact Or.inl (BitVec.eq_of_toInt_eq (e.trans h))
        · exact Or.inr (BitVec.eq_of_toInt_eq (e.trans h))
      rcases hor with h | h
      · exact Or.inr ⟨a, Finset.mem_insert_self _ _, h⟩
      · rw [h]
        rcases h3 with h3 | ⟨k, hk, h3⟩
        · exact Or.inl h3
        · exact Or.inr ⟨k, Finset.mem_insert_of_mem hk, h3⟩

/-- The least entry of a row, as the fold from plus infinity. -/
theorem fold_min_eq {n : Nat} [NeZero n] (d : Fin n → EReal) : Finset.univ.fold min (⊤ : EReal) d = d (first d) := by
  apply le_antisymm
  · exact (Finset.fold_min_le _).mpr (Or.inr ⟨_, Finset.mem_univ _, le_refl _⟩)
  · exact (Finset.le_fold_min _).mpr ⟨le_top, fun k _ => (first_spec d).1 k⟩

theorem topBits : Ideal.ofBits .f32 0x7F800000#32 = (⊤ : EReal) := by simp [Ideal.ofBits, Ideal.ieee]

/-- A difference with a finite number is at most zero exactly when the first is at most the second. -/
theorem sub_nonpos_of_finite (x m : EReal) (hm : m ≠ ⊤) (hm' : m ≠ ⊥) : x - m ≤ 0 ↔ x ≤ m := by
  induction m using EReal.rec with
  | bot => exact absurd rfl hm'
  | top => exact absurd rfl hm
  | coe m =>
    induction x using EReal.rec with
    | bot => simp
    | top => simp
    | coe x => norm_cast; exact sub_nonpos

/-- The first position found by least word among the positions that hold the least entry. -/
theorem fold_first (d : Fin 4096 → EReal) (hm : d (first d) ≠ ⊤) (hm' : d (first d) ≠ ⊥) :
    Finset.univ.fold IntOp.minsi 2147483647#32
      (fun k : Fin 4096 => if d k - Finset.univ.fold min (Ideal.ofBits .f32 0x7F800000#32) d ≤ 0 then BitVec.ofNat 32 k.val else 4096#32)
      = BitVec.ofNat 32 (first d).val := by
  rw [topBits, fold_min_eq]
  simp only [sub_nonpos_of_finite _ _ hm hm']
  obtain ⟨-, h2, h3⟩ := fold_minsi_spec Finset.univ
    (fun k : Fin 4096 => if d k ≤ d (first d) then BitVec.ofNat 32 k.val else 4096#32) 2147483647#32
  have toIntPos : ∀ k : Fin 4096, (BitVec.ofNat 32 k.val).toInt = k.val := fun k => by
    have := k.isLt
    rw [BitVec.toInt_eq_toNat_cond, BitVec.toNat_ofNat]
    rw [Nat.mod_eq_of_lt (by omega), if_pos (by omega)]
  have hf := h2 (first d) (Finset.mem_univ _)
  have hlt := (first d).isLt
  simp only [le_refl, if_true, toIntPos] at hf
  rcases h3 with h3 | ⟨k, -, h3⟩
  · rw [h3] at hf
    have : (2147483647#32 : BitVec 32).toInt = 2147483647 := by decide
    omega
  · rw [h3] at hf ⊢
    split at hf
    · next hk =>
      rw [if_pos hk]
      rw [toIntPos] at hf
      rcases lt_or_eq_of_le (show k ≤ first d by have : k.val ≤ (first d).val := by omega
                                                 exact this) with h | h
      · exact absurd hk (not_le.mpr ((first_spec d).2 k h))
      · rw [h]
    · have : (4096#32 : BitVec 32).toInt = 4096 := by decide
      omega

/-- The row of an array of distances. -/
abbrev rowOf {N : Nat} (D : FVec Ideal ⟨2, ![N, 4096]⟩ .f32) (r : Fin N) : Fin 4096 → EReal := fun c => D (ix2 r c)

/-- A round marks a row's first least entry and nothing else, when that entry is finite. -/
theorem hitV_apply (D : FVec Ideal S256x4096 .f32) (r : Fin 256) (c : Fin 4096)
    (hm : rowOf D r (first (rowOf D r)) ≠ ⊤) (hm' : rowOf D r (first (rowOf D r)) ≠ ⊥) :
    hitV D (ix2 r c) = BitVec.ofBool (decide (c = first (rowOf D r))) := by
  have e := fold_first (rowOf D r) hm hm'
  have : hitV D (ix2 r c) = IntOp.cmpi .eq (IntOp.subi (BitVec.ofNat 32 c.val) (Finset.univ.fold IntOp.minsi 2147483647#32
      (fun k : Fin 4096 => if rowOf D r k - Finset.univ.fold min (Ideal.ofBits .f32 0x7F800000#32) (rowOf D r) ≤ 0
        then BitVec.ofNat 32 k.val else 4096#32))) 0#32 := by
    unfold hitV
    pointwise!
  rw [this, e]
  by_cases h : c = first (rowOf D r)
  · subst h; simp [IntOp.cmpi, IntOp.subi]
  · have hne : BitVec.ofNat 32 c.val ≠ BitVec.ofNat 32 (first (rowOf D r)).val := fun e' => h (by
      have h1 := c.isLt
      have h2 := (first (rowOf D r)).isLt
      have := congrArg BitVec.toNat e'
      rw [BitVec.toNat_ofNat, BitVec.toNat_ofNat, Nat.mod_eq_of_lt (by omega), Nat.mod_eq_of_lt (by omega)] at this
      exact Fin.ext this)
    have hs : BitVec.ofNat 32 c.val - BitVec.ofNat 32 (first (rowOf D r)).val ≠ 0#32 := fun e' => hne (by
      have := congrArg (· + BitVec.ofNat 32 (first (rowOf D r)).val) e'
      rwa [BitVec.sub_add_cancel, BitVec.zero_add] at this)
    have hb : (BitVec.ofNat 32 c.val - BitVec.ofNat 32 (first (rowOf D r)).val == 0#32) = false := beq_eq_false_iff_ne.mpr hs
    simp [IntOp.cmpi, IntOp.subi, h, hb]

variable (D : FVec Ideal S256x4096 .f32) (r : Fin 256) (hd : ∀ c, rowOf D r c ≠ ⊤) (hd' : ∀ c, rowOf D r c ≠ ⊥)
include hd hd'

/-- What is left of a row after `t` rounds is what `Picks` calls so. -/
theorem leftV_row (t : Nat) (ht : t ≤ 4096) : rowOf (leftV D t) r = left (rowOf D r) t := by
  induction t with
  | zero => rfl
  | succ t ih =>
    have ih := ih (by omega)
    have h1 := left_pick_lt_top hd t (by omega)
    have h2 := left_pick hd t (by omega)
    funext c
    show Scalar.select (hitV (leftV D t) (ix2 r c)) (Ideal.ofBits .f32 0x7F800000#32) (leftV D t (ix2 r c))
      = if c = first (left (rowOf D r) t) then ⊤ else left (rowOf D r) t c
    rw [hitV_apply (leftV D t) r c (by rw [ih]; exact h1.ne) (by rw [ih]; exact h2 ▸ hd' _), topBits, ih]
    rw [show leftV D t (ix2 r c) = left (rowOf D r) t c from congrFun ih c]
    by_cases h : c = first (left (rowOf D r) t) <;> simp [h, Scalar.select]

open Classical in
/-- After `t` rounds the mask is one at the positions taken and zero elsewhere. -/
theorem maskV_row (t : Nat) (ht : t ≤ 4096) (c : Fin 4096) :
    maskV D t (ix2 r c) = if ∃ s, s < t ∧ pick (rowOf D r) s = c then (1 : EReal) else 0 := by
  induction t with
  | zero =>
    rw [if_neg (by simp)]
    exact Ideal.ofBits_zero_f32
  | succ t ih =>
    have ih := ih (by omega)
    have el := leftV_row D r hd hd' t (by omega)
    have h1 := left_pick_lt_top hd t (by omega)
    have h2 := left_pick hd t (by omega)
    have e : maskV D (t + 1) (ix2 r c) = Scalar.select (hitV (leftV D t) (ix2 r c)) (Ideal.ofBits .f32 0x3F800000#32)
      (maskV D t (ix2 r c)) := rfl
    rw [e, hitV_apply (leftV D t) r c (by rw [el]; exact h1.ne) (by rw [el]; exact h2 ▸ hd' _), el, ih,
      Ideal.ofBits_one_f32]
    clear e
    by_cases h : c = pick (rowOf D r) t
    · have hc : (∃ s, s < t + 1 ∧ pick (rowOf D r) s = c) := ⟨t, Nat.lt_succ_self t, h.symm⟩
      have : c = first (left (rowOf D r) t) := h
      simp only [eq_true hc, eq_true this]
      simp [Scalar.select]
    · have h' : ¬ c = first (left (rowOf D r) t) := h
      have : (∃ s, s < t + 1 ∧ pick (rowOf D r) s = c) = ∃ s, s < t ∧ pick (rowOf D r) s = c := by
        apply propext
        constructor
        · rintro ⟨s, hs, e⟩
          rcases Nat.lt_succ_iff_lt_or_eq.mp hs with hs | rfl
          · exact ⟨s, hs, e⟩
          · exact absurd e.symm h
        · rintro ⟨s, hs, e⟩
          exact ⟨s, Nat.lt_succ_of_lt hs, e⟩
      simp only [this, eq_false h']
      simp [Scalar.select]

/-- The narrowed mask is positive, read back as a number, exactly at the sixteen positions taken. -/
theorem mask_positive (c : Fin 4096) :
    ((0 : EReal) < ((((fptosi 8 (maskV D 16)) (ix2 r c)).toInt : ℝ) : EReal)) ↔ ∃ t : Fin 16, pick (rowOf D r) t.val = c := by
  classical
  have e : (fptosi 8 (maskV D 16)) (ix2 r c) = Ideal.fptosi 8 (maskV D 16 (ix2 r c)) := rfl
  rw [e, maskV_row D r hd hd' 16 (by norm_num) c]
  by_cases h : ∃ s, s < 16 ∧ pick (rowOf D r) s = c
  · rw [if_pos h]
    have : (Ideal.fptosi 8 1 : BitVec 8) = 1#8 := by
      show BitVec.ofInt 8 (max (-128) (min 127 (if (0 : ℝ) ≤ 1 then ⌊(1 : ℝ)⌋ else ⌈(1 : ℝ)⌉))) = _
      rw [if_pos zero_le_one, Int.floor_one]; decide
    rw [this]
    obtain ⟨s, hs, e⟩ := h
    exact ⟨fun _ => ⟨⟨s, hs⟩, e⟩, fun _ => by norm_num⟩
  · rw [if_neg h]
    have : (Ideal.fptosi 8 0 : BitVec 8) = 0#8 := by
      show BitVec.ofInt 8 (max (-128) (min 127 (if (0 : ℝ) ≤ 0 then ⌊(0 : ℝ)⌋ else ⌈(0 : ℝ)⌉))) = _
      rw [if_pos (le_refl _), Int.floor_zero]; decide
    rw [this]
    exact ⟨fun h' => absurd h' (by norm_num), fun ⟨t, ht⟩ => absurd ⟨t.val, t.isLt, ht⟩ h⟩

end Cert.Proof

end
-- ==== Proof.MaskArray.lean ====
/-
  The mask array: entry (r, n) is positive exactly when n is among row r's sixteen picks by distance.
-/
module

public import proofs.«01_k».proof.Proof.Regions
public import proofs.«01_k».proof.Proof.Mask

@[expose] public section

set_option maxRecDepth 16384

noncomputable section

namespace Cert.Proof

open Idealize.ShloMosaic Idealize.ShloMosaic.TcCoe Cert.KernelIdeal Cert.KernelIdeal.Gen Cert.KernelIdeal.Facts

/-- The squared distance of two points. -/
def dist (p : Fin 4096 → Fin 3 → EReal) (r n : Fin 4096) : EReal :=
  ∑ x, p r x * p r x + ∑ x, p n x * p n x - Ideal.ofBits .f32 0x40000000#32 * ∑ x, p r x * p n x

/-- Finite points have finite distances. -/
theorem isReal_dist (p : Fin 4096 → Fin 3 → EReal) (hp : ∀ r x, IsReal (p r x)) (r n : Fin 4096) : IsReal (dist p r n) :=
  ((IsReal.sum _ _ fun x => (hp r x).mul (hp r x)).add (IsReal.sum _ _ fun x => (hp n x).mul (hp n x))).sub
    (IsReal.mul ⟨_, by simp [Ideal.ofBits, Ideal.ieee, -EReal.coe_mul]; rfl⟩ (IsReal.sum _ _ fun x => (hp r x).mul (hp n x)))

/-- An entry of the block's distances. -/
theorem dist_at (a : Vec Ideal S256x3 .f32) (b : Vec Ideal S3x4096 .f32) (r : Fin 256) (n : Fin 4096) :
    dist0 a b (ix2 r n) = ∑ x, a (ix2 r x) * a (ix2 r x) + ∑ x, b (ix2 x n) * b (ix2 x n)
      - Ideal.ofBits .f32 0x40000000#32 * ∑ x, a (ix2 r x) * b (ix2 x n) := by
  unfold dist0
  frame_out
  unfold k0_pay2
  pointwise

/-- The mask a block of rows ends with marks each row's sixteen picks. -/
theorem mask_block (p : Fin 4096 → Fin 3 → EReal) (hp : ∀ r x, IsReal (p r x)) (R : Fin 4096) (a : Vec Ideal S256x3 .f32)
    (b : Vec Ideal S3x4096 .f32) (r : Fin 256) (ha : ∀ x, a (ix2 r x) = p R x) (hb : ∀ x n, b (ix2 x n) = p n x) (n : Fin 4096) :
    (0 : EReal) < (((BitVec.toInt (n := 8) (out0_2 a b (ix2 r n)) : ℤ) : ℝ) : EReal) ↔ ∃ t : Fin 16, pick (dist p R) t.val = n := by
  have hrow : rowOf (dist0 a b) r = dist p R := by
    funext n
    refine (dist_at a b r n).trans ?_
    simp only [ha, hb]
    rfl
  have hfin : ∀ n, IsReal (rowOf (dist0 a b) r n) := fun n => by rw [hrow]; exact isReal_dist p hp _ n
  have key := mask_positive (dist0 a b) r (fun n => (hfin n).ne_top) (fun n => (hfin n).ne_bot) n
  rw [hrow] at key
  have hout : out0_2 a b = fptosi 8 (maskV (dist0 a b) 16) := by
    rw [out0_eq]
    frame_out
  rw [hout]
  exact key

/-- A property of a block's entries at their places in the array. -/
theorem block_forall {α : Type} (t : Fin 16) (out : S256x4096.Idx → α) (Q : Fin 4096 → Fin 4096 → α → Prop)
    (e : S256x4096.Idx → S4096x4096.Idx) (he : ∀ r k, e (ix2 r k) = ix2 (blockRow t r) k)
    (h : ∀ r k, Q (blockRow t r) k (out (ix2 r k))) (y : S256x4096.Idx) : Q (e y 0) (e y 1) (out y) := by
  obtain ⟨r, k, rfl⟩ : ∃ r k, y = ix2 r k := ⟨_, _, eq_ix2 y⟩
  rw [he]
  exact h r k

/-- What it is for a mask entry to mark a pair of rows. -/
def Marks (p : Fin 4096 → Fin 3 → EReal) (r n : Fin 4096) (v : BitVec 8) : Prop :=
  (0 : EReal) < ((v.toInt : ℝ) : EReal) ↔ ∃ t : Fin 16, pick (dist p r) t.val = n

variable (V : (c : Dev nD) → (b : Ref sig .tc) → Buf (Elt Ideal) ((c : Thread nD τ).loc b)) (c : Dev nD)

/-- Which block each window holds at each step. -/
theorem index0 : ∀ t : Fin grid0.N, win0_0.index t = ![t.val, 0] ∧ (win0_1.index t = fun _ => 0) ∧ win0_2.index t = ![t.val, 0] := by
  decide +kernel

/-- The mask array after its call. -/
theorem mask0 (p : Fin 4096 → Fin 3 → EReal) (hp : ∀ r x, IsReal (p r x)) (ha : ∀ r x, V c main_arg0 (ix2 r x) = p r x)
    (hb : ∀ x n, V c main_v0 (ix2 x n) = p n x) (r n : Fin 4096) :
    Marks p r n ((dat0 V c).arrAt 2 cfg0.N (ix2 r n)) := by
  refine (dat0 V c).arrAt_forall_of_covers 2 (fun (i : S4096x4096.Idx) (v : BitVec 8) => Marks p (i 0) (i 1) v)
    (by decide +kernel) (fun t hf y => ?_) (ix2 r n)
  blk_simp
  refine block_forall t _ (Marks p) _ (fun r k => emb_at win0_2 t (ix2 r k) _ (rows_coords t r k (index0 t).2.2)) (fun r k => ?_) y
  rw [after0_2]
  exact mask_block p hp _ _ _ r
    (fun x => (congrArg (V c main_arg0) (emb_at win0_0 t (ix2 r x) (ix2 (blockRow t r) x) (rows_coords t r x (index0 t).1))).trans (ha _ x))
    (fun x n => (congrArg (V c main_v0) (emb_zero win0_1 t (ix2 x n) (ix2 x n) (index0 t).2.1 fun _ => rfl)).trans (hb x n)) k

end Cert.Proof

end
-- ==== Proof.Layer1.lean ====
/-
  The arrays the first layer's two calls leave, in the layer's terms: after the projection call the three arrays
  hold each row's query, key and value; after the attention call the array holds each row's layer output.
-/
module

public import proofs.«01_k».proof.Proof.Regions

@[expose] public section

set_option maxRecDepth 16384

noncomputable section

namespace Cert.Proof

open Idealize.ShloMosaic Idealize.ShloMosaic.TcCoe Cert.KernelIdeal Cert.KernelIdeal.Gen Cert.KernelIdeal.Facts

variable (V : (c : Dev nD) → (b : Ref sig .tc) → Buf (Elt Ideal) ((c : Thread nD τ).loc b)) (c : Dev nD)
  (P : Params) (X : Fin 4096 → Fin 256 → EReal)

/-! ## The projection call -/

/-- The windows that hold whole arrays at every step. -/
theorem zero1 : ∀ t : Fin grid1.N, (win1_1.index t = fun _ => 0) ∧ (win1_2.index t = fun _ => 0) ∧ (win1_3.index t = fun _ => 0) := by
  decide +kernel
/-- The windows that hold step `t`'s block of rows. -/
theorem rows1 : ∀ t : Fin grid1.N, win1_0.index t = ![t.val, 0] ∧ win1_4.index t = ![t.val, 0] ∧ win1_5.index t = ![t.val, 0]
    ∧ win1_6.index t = ![t.val, 0] := by
  decide +kernel

set_option maxHeartbeats 1000000 in
/-- The query, key and value arrays after the projection call. -/
theorem proj1 (hX : ∀ r k, V c main_arg1 (ix2 r k) = X r k) (hP : ProjArgs P (V c main_v4) (V c main_v7) (V c main_v9)) :
    (dat1 V c).arrAt 4 cfg1.N = (fun i => qkv P (X (i 0)) (qcol (i 1)))
    ∧ (dat1 V c).arrAt 5 cfg1.N = (fun i => qkv P (X (i 0)) (kcol (i 1)))
    ∧ (dat1 V c).arrAt 6 cfg1.N = (fun i => qkv P (X (i 0)) (vcol (i 1))) := by
  have blk : ∀ t : Fin 16, ProjBlock t (V c main_arg1) (V c main_v4) (V c main_v7) (V c main_v9) (iblk1 V c 0 t) (iblk1 V c 1 t)
      (iblk1 V c 2 t) (iblk1 V c 3 t) := fun t =>
    ⟨fun r k => congrArg (V c main_arg1) (emb_at win1_0 t (ix2 r k) _ (rows_coords t r k (rows1 t).1)),
      funext fun y => congrArg (V c main_v4) (emb_zero win1_1 t y y (zero1 t).1 fun _ => rfl),
      funext fun y => congrArg (V c main_v7) (emb_zero win1_2 t y y (zero1 t).2.1 fun _ => rfl),
      funext fun y => congrArg (V c main_v9) (emb_zero win1_3 t y y (zero1 t).2.2 fun _ => rfl)⟩
  refine ⟨(dat1 V c).arrAt_eq_of_covers 4 _ (by decide +kernel) fun t hf y => ?_,
    (dat1 V c).arrAt_eq_of_covers 5 _ (by decide +kernel) fun t hf y => ?_,
    (dat1 V c).arrAt_eq_of_covers 6 _ (by decide +kernel) fun t hf y => ?_⟩ <;> blk_simp
  · exact block_rows t _ (fun i => qkv P (X (i 0)) (qcol (i 1))) _ (fun r k => emb_at win1_4 t (ix2 r k) _ (rows_coords t r k (rows1 t).2.1))
      (fun r k => by rw [after1_4]; exact (blk t).query hX hP r k) y
  · exact block_rows t _ (fun i => qkv P (X (i 0)) (kcol (i 1))) _ (fun r k => emb_at win1_5 t (ix2 r k) _ (rows_coords t r k (rows1 t).2.2.1))
      (fun r k => by rw [after1_5]; exact (blk t).key hX hP r k) y
  · exact block_rows t _ (fun i => qkv P (X (i 0)) (vcol (i 1))) _ (fun r k => emb_at win1_6 t (ix2 r k) _ (rows_coords t r k (rows1 t).2.2.2))
      (fun r k => by rw [after1_6]; exact (blk t).value hX hP r k) y

/-! ## The attention call -/

/-- The windows that hold whole arrays at every step. -/
theorem zero2 : ∀ t : Fin grid2.N, (win2_1.index t = fun _ => 0) ∧ (win2_2.index t = fun _ => 0) ∧ (win2_5.index t = fun _ => 0)
    ∧ (win2_6.index t = fun _ => 0) ∧ (win2_7.index t = fun _ => 0) ∧ (win2_8.index t = fun _ => 0) ∧ (win2_9.index t = fun _ => 0)
    ∧ (win2_10.index t = fun _ => 0) ∧ (win2_11.index t = fun _ => 0) ∧ (win2_12.index t = fun _ => 0) := by
  decide +kernel
/-- The windows that hold step `t`'s block of rows. -/
theorem rows2 : ∀ t : Fin grid2.N, win2_0.index t = ![t.val, 0] ∧ win2_3.index t = ![t.val, 0] ∧ win2_4.index t = ![t.val, 0]
    ∧ win2_13.index t = ![t.val, 0] := by
  decide +kernel

set_option maxHeartbeats 2000000 in
/-- The layer's output array after the attention call. -/
theorem attn2 (M : Fin 4096 → Fin 4096 → Prop) [∀ r n, Decidable (M r n)]
    (hR : AttnRows P X M (V c main_v10_0) (V c main_v10_1) (V c main_v10_2) (V c main_v1) (V c main_arg1))
    (hP : AttnArgs P (V c main_v12) (V c main_v15) (V c main_v18) (V c main_v21) (V c main_v23) (V c main_v26) (V c main_v28)
      (V c main_v31)) :
    (dat2 V c).arrAt 13 cfg2.N = fun i => layerM M P X (i 0) (i 1) := by
  refine (dat2 V c).arrAt_eq_of_covers 13 _ (by decide +kernel) fun t hf y => ?_
  blk_simp
  obtain ⟨z1, z2, z5, z6, z7, z8, z9, z10, z11, z12⟩ := zero2 t
  obtain ⟨r0, r3, r4, r13⟩ := rows2 t
  refine block_rows t _ (fun i => layerM M P X (i 0) (i 1)) _ (fun r k => emb_at win2_13 t (ix2 r k) _ (rows_coords t r k r13)) ?_ y
  rw [after2_13]
  exact attn_row hR hP t
    (fun r k => congrArg (V c main_v10_0) (emb_at win2_0 t (ix2 r k) _ (rows_coords t r k r0)))
    (funext fun y => congrArg (V c main_v10_1) (emb_zero win2_1 t y y z1 fun _ => rfl))
    (funext fun y => congrArg (V c main_v10_2) (emb_zero win2_2 t y y z2 fun _ => rfl))
    (fun r n => congrArg (V c main_v1) (emb_at win2_3 t (ix2 r n) _ (rows_coords t r n r3)))
    (fun r k => congrArg (V c main_arg1) (emb_at win2_4 t (ix2 r k) _ (rows_coords t r k r4)))
    (funext fun y => congrArg (V c main_v12) (emb_zero win2_5 t y y z5 fun _ => rfl))
    (funext fun y => congrArg (V c main_v15) (emb_zero win2_6 t y y z6 fun _ => rfl))
    (funext fun y => congrArg (V c main_v18) (emb_zero win2_7 t y y z7 fun _ => rfl))
    (funext fun y => congrArg (V c main_v21) (emb_zero win2_8 t y y z8 fun _ => rfl))
    (funext fun y => congrArg (V c main_v23) (emb_zero win2_9 t y y z9 fun _ => rfl))
    (funext fun y => congrArg (V c main_v26) (emb_zero win2_10 t y y z10 fun _ => rfl))
    (funext fun y => congrArg (V c main_v28) (emb_zero win2_11 t y y z11 fun _ => rfl))
    (funext fun y => congrArg (V c main_v31) (emb_zero win2_12 t y y z12 fun _ => rfl))

end Cert.Proof

end
-- ==== Proof.BlocksLater.lean ====
/-
  The later layers' calls compute a block exactly as the first layer's do.
-/
module

public import proofs.«01_k».proof.Proof.Gen.KernelIdeal.Frame.Region1
public import proofs.«01_k».proof.Proof.Gen.KernelIdeal.Frame.Region2
public import proofs.«01_k».proof.Proof.Gen.KernelIdeal.Frame.Region3
public import proofs.«01_k».proof.Proof.Gen.KernelIdeal.Frame.Region4
public import proofs.«01_k».proof.Proof.Gen.KernelIdeal.Frame.Region5
public import proofs.«01_k».proof.Proof.Gen.KernelIdeal.Frame.Region6
public import proofs.«01_k».proof.Proof.Gen.KernelIdeal.Frame.Region7
public import proofs.«01_k».proof.Proof.Gen.KernelIdeal.Frame.Region8
public import Idealize.ShloMosaic.Lib.Pointwise

@[expose] public section

set_option maxRecDepth 16384

noncomputable section

namespace Cert.Proof

open Idealize.ShloMosaic Cert.KernelIdeal Cert.KernelIdeal.Gen Cert.KernelIdeal.Facts

/-- The later projections are the first one's. -/
theorem out3_q_eq : out3_4 (F := Ideal) = out1_4 := by
  funext x0 x1 x2 x3
  unfold out3_4 out1_4 k3_pay2 k1_pay2 k3_pay1 k1_pay1
  simp only [shapeCast_self]
theorem out3_k_eq : out3_5 (F := Ideal) = out1_5 := by
  funext x0 x1 x2 x3
  unfold out3_5 out1_5 k3_pay3 k1_pay3 k3_pay1 k1_pay1
  simp only [shapeCast_self]
theorem out3_v_eq : out3_6 (F := Ideal) = out1_6 := by
  funext x0 x1 x2 x3
  unfold out3_6 out1_6 k3_pay4 k1_pay4 k3_pay1 k1_pay1
  simp only [shapeCast_self]
theorem out5_q_eq : out5_4 (F := Ideal) = out1_4 := out3_q_eq
theorem out5_k_eq : out5_5 (F := Ideal) = out1_5 := out3_k_eq
theorem out5_v_eq : out5_6 (F := Ideal) = out1_6 := out3_v_eq
theorem out7_q_eq : out7_4 (F := Ideal) = out1_4 := out3_q_eq
theorem out7_k_eq : out7_5 (F := Ideal) = out1_5 := out3_k_eq
theorem out7_v_eq : out7_6 (F := Ideal) = out1_6 := out3_v_eq

/-- The later attention blocks are the first one's. -/
theorem out4_eq : out4_13 (F := Ideal) = out2_13 := by
  funext x0 x1 x2 x3 x4 x5 x6 x7 x8 x9 x10 x11 x12
  unfold out4_13 out2_13 k4_pay4 k2_pay5
  unfold k4_pay1 k4_pay2 k4_pay3 k2_pay1 k2_pay2 k2_pay3 k2_pay4
  simp only [shapeCast_self]
theorem out6_eq : out6_13 (F := Ideal) = out2_13 := out4_eq
theorem out8_eq : out8_13 (F := Ideal) = out2_13 := out4_eq

end Cert.Proof

end
-- ==== Proof.Layer2.lean ====
/-
  The arrays the second layer's two calls leave, in the layer's terms: after the projection call the three arrays
  hold each row's query, key and value; after the attention call the array holds each row's layer output.
-/
module

public import proofs.«01_k».proof.Proof.Regions
public import proofs.«01_k».proof.Proof.BlocksLater

@[expose] public section

set_option maxRecDepth 16384

noncomputable section

namespace Cert.Proof

open Idealize.ShloMosaic Idealize.ShloMosaic.TcCoe Cert.KernelIdeal Cert.KernelIdeal.Gen Cert.KernelIdeal.Facts

variable (V : (c : Dev nD) → (b : Ref sig .tc) → Buf (Elt Ideal) ((c : Thread nD τ).loc b)) (c : Dev nD)
  (P : Params) (X : Fin 4096 → Fin 256 → EReal)

/-! ## The projection call -/

/-- The windows that hold whole arrays at every step. -/
theorem zero3 : ∀ t : Fin grid3.N, (win3_1.index t = fun _ => 0) ∧ (win3_2.index t = fun _ => 0) ∧ (win3_3.index t = fun _ => 0) := by
  decide +kernel
/-- The windows that hold step `t`'s block of rows. -/
theorem rows3 : ∀ t : Fin grid3.N, win3_0.index t = ![t.val, 0] ∧ win3_4.index t = ![t.val, 0] ∧ win3_5.index t = ![t.val, 0]
    ∧ win3_6.index t = ![t.val, 0] := by
  decide +kernel

set_option maxHeartbeats 1000000 in
/-- The query, key and value arrays after the projection call. -/
theorem proj3 (hX : ∀ r k, V c main_v32 (ix2 r k) = X r k) (hP : ProjArgs P (V c main_v35) (V c main_v38) (V c main_v40)) :
    (dat3 V c).arrAt 4 cfg3.N = (fun i => qkv P (X (i 0)) (qcol (i 1)))
    ∧ (dat3 V c).arrAt 5 cfg3.N = (fun i => qkv P (X (i 0)) (kcol (i 1)))
    ∧ (dat3 V c).arrAt 6 cfg3.N = (fun i => qkv P (X (i 0)) (vcol (i 1))) := by
  have blk : ∀ t : Fin 16, ProjBlock t (V c main_v32) (V c main_v35) (V c main_v38) (V c main_v40) (iblk3 V c 0 t) (iblk3 V c 1 t)
      (iblk3 V c 2 t) (iblk3 V c 3 t) := fun t =>
    ⟨fun r k => congrArg (V c main_v32) (emb_at win3_0 t (ix2 r k) _ (rows_coords t r k (rows3 t).1)),
      funext fun y => congrArg (V c main_v35) (emb_zero win3_1 t y y (zero3 t).1 fun _ => rfl),
      funext fun y => congrArg (V c main_v38) (emb_zero win3_2 t y y (zero3 t).2.1 fun _ => rfl),
      funext fun y => congrArg (V c main_v40) (emb_zero win3_3 t y y (zero3 t).2.2 fun _ => rfl)⟩
  refine ⟨(dat3 V c).arrAt_eq_of_covers 4 _ (by decide +kernel) fun t hf y => ?_,
    (dat3 V c).arrAt_eq_of_covers 5 _ (by decide +kernel) fun t hf y => ?_,
    (dat3 V c).arrAt_eq_of_covers 6 _ (by decide +kernel) fun t hf y => ?_⟩ <;> blk_simp
  · exact block_rows t _ (fun i => qkv P (X (i 0)) (qcol (i 1))) _ (fun r k => emb_at win3_4 t (ix2 r k) _ (rows_coords t r k (rows3 t).2.1))
      (fun r k => by rw [after3_4, out3_q_eq]; exact (blk t).query hX hP r k) y
  · exact block_rows t _ (fun i => qkv P (X (i 0)) (kcol (i 1))) _ (fun r k => emb_at win3_5 t (ix2 r k) _ (rows_coords t r k (rows3 t).2.2.1))
      (fun r k => by rw [after3_5, out3_k_eq]; exact (blk t).key hX hP r k) y
  · exact block_rows t _ (fun i => qkv P (X (i 0)) (vcol (i 1))) _ (fun r k => emb_at win3_6 t (ix2 r k) _ (rows_coords t r k (rows3 t).2.2.2))
      (fun r k => by rw [after3_6, out3_v_eq]; exact (blk t).value hX hP r k) y

/-! ## The attention call -/

/-- The windows that hold whole arrays at every step. -/
theorem zero4 : ∀ t : Fin grid4.N, (win4_1.index t = fun _ => 0) ∧ (win4_2.index t = fun _ => 0) ∧ (win4_5.index t = fun _ => 0)
    ∧ (win4_6.index t = fun _ => 0) ∧ (win4_7.index t = fun _ => 0) ∧ (win4_8.index t = fun _ => 0) ∧ (win4_9.index t = fun _ => 0)
    ∧ (win4_10.index t = fun _ => 0) ∧ (win4_11.index t = fun _ => 0) ∧ (win4_12.index t = fun _ => 0) := by
  decide +kernel
/-- The windows that hold step `t`'s block of rows. -/
theorem rows4 : ∀ t : Fin grid4.N, win4_0.index t = ![t.val, 0] ∧ win4_3.index t = ![t.val, 0] ∧ win4_4.index t = ![t.val, 0]
    ∧ win4_13.index t = ![t.val, 0] := by
  decide +kernel

set_option maxHeartbeats 2000000 in
/-- The layer's output array after the attention call. -/
theorem attn4 (M : Fin 4096 → Fin 4096 → Prop) [∀ r n, Decidable (M r n)]
    (hR : AttnRows P X M (V c main_v41_0) (V c main_v41_1) (V c main_v41_2) (V c main_v1) (V c main_v32))
    (hP : AttnArgs P (V c main_v43) (V c main_v46) (V c main_v49) (V c main_v52) (V c main_v54) (V c main_v57) (V c main_v59)
      (V c main_v62)) :
    (dat4 V c).arrAt 13 cfg4.N = fun i => layerM M P X (i 0) (i 1) := by
  refine (dat4 V c).arrAt_eq_of_covers 13 _ (by decide +kernel) fun t hf y => ?_
  blk_simp
  obtain ⟨z1, z2, z5, z6, z7, z8, z9, z10, z11, z12⟩ := zero4 t
  obtain ⟨r0, r3, r4, r13⟩ := rows4 t
  refine block_rows t _ (fun i => layerM M P X (i 0) (i 1)) _ (fun r k => emb_at win4_13 t (ix2 r k) _ (rows_coords t r k r13)) ?_ y
  rw [after4_13, out4_eq]
  exact attn_row hR hP t
    (fun r k => congrArg (V c main_v41_0) (emb_at win4_0 t (ix2 r k) _ (rows_coords t r k r0)))
    (funext fun y => congrArg (V c main_v41_1) (emb_zero win4_1 t y y z1 fun _ => rfl))
    (funext fun y => congrArg (V c main_v41_2) (emb_zero win4_2 t y y z2 fun _ => rfl))
    (fun r n => congrArg (V c main_v1) (emb_at win4_3 t (ix2 r n) _ (rows_coords t r n r3)))
    (fun r k => congrArg (V c main_v32) (emb_at win4_4 t (ix2 r k) _ (rows_coords t r k r4)))
    (funext fun y => congrArg (V c main_v43) (emb_zero win4_5 t y y z5 fun _ => rfl))
    (funext fun y => congrArg (V c main_v46) (emb_zero win4_6 t y y z6 fun _ => rfl))
    (funext fun y => congrArg (V c main_v49) (emb_zero win4_7 t y y z7 fun _ => rfl))
    (funext fun y => congrArg (V c main_v52) (emb_zero win4_8 t y y z8 fun _ => rfl))
    (funext fun y => congrArg (V c main_v54) (emb_zero win4_9 t y y z9 fun _ => rfl))
    (funext fun y => congrArg (V c main_v57) (emb_zero win4_10 t y y z10 fun _ => rfl))
    (funext fun y => congrArg (V c main_v59) (emb_zero win4_11 t y y z11 fun _ => rfl))
    (funext fun y => congrArg (V c main_v62) (emb_zero win4_12 t y y z12 fun _ => rfl))

end Cert.Proof

end
-- ==== Proof.Layer3.lean ====
/-
  The arrays the third layer's two calls leave, in the layer's terms: after the projection call the three arrays
  hold each row's query, key and value; after the attention call the array holds each row's layer output.
-/
module

public import proofs.«01_k».proof.Proof.Regions
public import proofs.«01_k».proof.Proof.BlocksLater

@[expose] public section

set_option maxRecDepth 16384

noncomputable section

namespace Cert.Proof

open Idealize.ShloMosaic Idealize.ShloMosaic.TcCoe Cert.KernelIdeal Cert.KernelIdeal.Gen Cert.KernelIdeal.Facts

variable (V : (c : Dev nD) → (b : Ref sig .tc) → Buf (Elt Ideal) ((c : Thread nD τ).loc b)) (c : Dev nD)
  (P : Params) (X : Fin 4096 → Fin 256 → EReal)

/-! ## The projection call -/

/-- The windows that hold whole arrays at every step. -/
theorem zero5 : ∀ t : Fin grid5.N, (win5_1.index t = fun _ => 0) ∧ (win5_2.index t = fun _ => 0) ∧ (win5_3.index t = fun _ => 0) := by
  decide +kernel
/-- The windows that hold step `t`'s block of rows. -/
theorem rows5 : ∀ t : Fin grid5.N, win5_0.index t = ![t.val, 0] ∧ win5_4.index t = ![t.val, 0] ∧ win5_5.index t = ![t.val, 0]
    ∧ win5_6.index t = ![t.val, 0] := by
  decide +kernel

set_option maxHeartbeats 1000000 in
/-- The query, key and value arrays after the projection call. -/
theorem proj5 (hX : ∀ r k, V c main_v63 (ix2 r k) = X r k) (hP : ProjArgs P (V c main_v66) (V c main_v69) (V c main_v71)) :
    (dat5 V c).arrAt 4 cfg5.N = (fun i => qkv P (X (i 0)) (qcol (i 1)))
    ∧ (dat5 V c).arrAt 5 cfg5.N = (fun i => qkv P (X (i 0)) (kcol (i 1)))
    ∧ (dat5 V c).arrAt 6 cfg5.N = (fun i => qkv P (X (i 0)) (vcol (i 1))) := by
  have blk : ∀ t : Fin 16, ProjBlock t (V c main_v63) (V c main_v66) (V c main_v69) (V c main_v71) (iblk5 V c 0 t) (iblk5 V c 1 t)
      (iblk5 V c 2 t) (iblk5 V c 3 t) := fun t =>
    ⟨fun r k => congrArg (V c main_v63) (emb_at win5_0 t (ix2 r k) _ (rows_coords t r k (rows5 t).1)),
      funext fun y => congrArg (V c main_v66) (emb_zero win5_1 t y y (zero5 t).1 fun _ => rfl),
      funext fun y => congrArg (V c main_v69) (emb_zero win5_2 t y y (zero5 t).2.1 fun _ => rfl),
      funext fun y => congrArg (V c main_v71) (emb_zero win5_3 t y y (zero5 t).2.2 fun _ => rfl)⟩
  refine ⟨(dat5 V c).arrAt_eq_of_covers 4 _ (by decide +kernel) fun t hf y => ?_,
    (dat5 V c).arrAt_eq_of_covers 5 _ (by decide +kernel) fun t hf y => ?_,
    (dat5 V c).arrAt_eq_of_covers 6 _ (by decide +kernel) fun t hf y => ?_⟩ <;> blk_simp
  · exact block_rows t _ (fun i => qkv P (X (i 0)) (qcol (i 1))) _ (fun r k => emb_at win5_4 t (ix2 r k) _ (rows_coords t r k (rows5 t).2.1))
      (fun r k => by rw [after5_4, out5_q_eq]; exact (blk t).query hX hP r k) y
  · exact block_rows t _ (fun i => qkv P (X (i 0)) (kcol (i 1))) _ (fun r k => emb_at win5_5 t (ix2 r k) _ (rows_coords t r k (rows5 t).2.2.1))
      (fun r k => by rw [after5_5, out5_k_eq]; exact (blk t).key hX hP r k) y
  · exact block_rows t _ (fun i => qkv P (X (i 0)) (vcol (i 1))) _ (fun r k => emb_at win5_6 t (ix2 r k) _ (rows_coords t r k (rows5 t).2.2.2))
      (fun r k => by rw [after5_6, out5_v_eq]; exact (blk t).value hX hP r k) y

/-! ## The attention call -/

/-- The windows that hold whole arrays at every step. -/
theorem zero6 : ∀ t : Fin grid6.N, (win6_1.index t = fun _ => 0) ∧ (win6_2.index t = fun _ => 0) ∧ (win6_5.index t = fun _ => 0)
    ∧ (win6_6.index t = fun _ => 0) ∧ (win6_7.index t = fun _ => 0) ∧ (win6_8.index t = fun _ => 0) ∧ (win6_9.index t = fun _ => 0)
    ∧ (win6_10.index t = fun _ => 0) ∧ (win6_11.index t = fun _ => 0) ∧ (win6_12.index t = fun _ => 0) := by
  decide +kernel
/-- The windows that hold step `t`'s block of rows. -/
theorem rows6 : ∀ t : Fin grid6.N, win6_0.index t = ![t.val, 0] ∧ win6_3.index t = ![t.val, 0] ∧ win6_4.index t = ![t.val, 0]
    ∧ win6_13.index t = ![t.val, 0] := by
  decide +kernel

set_option maxHeartbeats 2000000 in
/-- The layer's output array after the attention call. -/
theorem attn6 (M : Fin 4096 → Fin 4096 → Prop) [∀ r n, Decidable (M r n)]
    (hR : AttnRows P X M (V c main_v72_0) (V c main_v72_1) (V c main_v72_2) (V c main_v1) (V c main_v63))
    (hP : AttnArgs P (V c main_v74) (V c main_v77) (V c main_v80) (V c main_v83) (V c main_v85) (V c main_v88) (V c main_v90)
      (V c main_v93)) :
    (dat6 V c).arrAt 13 cfg6.N = fun i => layerM M P X (i 0) (i 1) := by
  refine (dat6 V c).arrAt_eq_of_covers 13 _ (by decide +kernel) fun t hf y => ?_
  blk_simp
  obtain ⟨z1, z2, z5, z6, z7, z8, z9, z10, z11, z12⟩ := zero6 t
  obtain ⟨r0, r3, r4, r13⟩ := rows6 t
  refine block_rows t _ (fun i => layerM M P X (i 0) (i 1)) _ (fun r k => emb_at win6_13 t (ix2 r k) _ (rows_coords t r k r13)) ?_ y
  rw [after6_13, out6_eq]
  exact attn_row hR hP t
    (fun r k => congrArg (V c main_v72_0) (emb_at win6_0 t (ix2 r k) _ (rows_coords t r k r0)))
    (funext fun y => congrArg (V c main_v72_1) (emb_zero win6_1 t y y z1 fun _ => rfl))
    (funext fun y => congrArg (V c main_v72_2) (emb_zero win6_2 t y y z2 fun _ => rfl))
    (fun r n => congrArg (V c main_v1) (emb_at win6_3 t (ix2 r n) _ (rows_coords t r n r3)))
    (fun r k => congrArg (V c main_v63) (emb_at win6_4 t (ix2 r k) _ (rows_coords t r k r4)))
    (funext fun y => congrArg (V c main_v74) (emb_zero win6_5 t y y z5 fun _ => rfl))
    (funext fun y => congrArg (V c main_v77) (emb_zero win6_6 t y y z6 fun _ => rfl))
    (funext fun y => congrArg (V c main_v80) (emb_zero win6_7 t y y z7 fun _ => rfl))
    (funext fun y => congrArg (V c main_v83) (emb_zero win6_8 t y y z8 fun _ => rfl))
    (funext fun y => congrArg (V c main_v85) (emb_zero win6_9 t y y z9 fun _ => rfl))
    (funext fun y => congrArg (V c main_v88) (emb_zero win6_10 t y y z10 fun _ => rfl))
    (funext fun y => congrArg (V c main_v90) (emb_zero win6_11 t y y z11 fun _ => rfl))
    (funext fun y => congrArg (V c main_v93) (emb_zero win6_12 t y y z12 fun _ => rfl))

end Cert.Proof

end
-- ==== Proof.Layer4.lean ====
/-
  The arrays the fourth layer's two calls leave, in the layer's terms: after the projection call the three arrays
  hold each row's query, key and value; after the attention call the array holds each row's layer output.
-/
module

public import proofs.«01_k».proof.Proof.Regions
public import proofs.«01_k».proof.Proof.BlocksLater

@[expose] public section

set_option maxRecDepth 16384

noncomputable section

namespace Cert.Proof

open Idealize.ShloMosaic Idealize.ShloMosaic.TcCoe Cert.KernelIdeal Cert.KernelIdeal.Gen Cert.KernelIdeal.Facts

variable (V : (c : Dev nD) → (b : Ref sig .tc) → Buf (Elt Ideal) ((c : Thread nD τ).loc b)) (c : Dev nD)
  (P : Params) (X : Fin 4096 → Fin 256 → EReal)

/-! ## The projection call -/

/-- The windows that hold whole arrays at every step. -/
theorem zero7 : ∀ t : Fin grid7.N, (win7_1.index t = fun _ => 0) ∧ (win7_2.index t = fun _ => 0) ∧ (win7_3.index t = fun _ => 0) := by
  decide +kernel
/-- The windows that hold step `t`'s block of rows. -/
theorem rows7 : ∀ t : Fin grid7.N, win7_0.index t = ![t.val, 0] ∧ win7_4.index t = ![t.val, 0] ∧ win7_5.index t = ![t.val, 0]
    ∧ win7_6.index t = ![t.val, 0] := by
  decide +kernel

set_option maxHeartbeats 1000000 in
/-- The query, key and value arrays after the projection call. -/
theorem proj7 (hX : ∀ r k, V c main_v94 (ix2 r k) = X r k) (hP : ProjArgs P (V c main_v97) (V c main_v100) (V c main_v102)) :
    (dat7 V c).arrAt 4 cfg7.N = (fun i => qkv P (X (i 0)) (qcol (i 1)))
    ∧ (dat7 V c).arrAt 5 cfg7.N = (fun i => qkv P (X (i 0)) (kcol (i 1)))
    ∧ (dat7 V c).arrAt 6 cfg7.N = (fun i => qkv P (X (i 0)) (vcol (i 1))) := by
  have blk : ∀ t : Fin 16, ProjBlock t (V c main_v94) (V c main_v97) (V c main_v100) (V c main_v102) (iblk7 V c 0 t) (iblk7 V c 1 t)
      (iblk7 V c 2 t) (iblk7 V c 3 t) := fun t =>
    ⟨fun r k => congrArg (V c main_v94) (emb_at win7_0 t (ix2 r k) _ (rows_coords t r k (rows7 t).1)),
      funext fun y => congrArg (V c main_v97) (emb_zero win7_1 t y y (zero7 t).1 fun _ => rfl),
      funext fun y => congrArg (V c main_v100) (emb_zero win7_2 t y y (zero7 t).2.1 fun _ => rfl),
      funext fun y => congrArg (V c main_v102) (emb_zero win7_3 t y y (zero7 t).2.2 fun _ => rfl)⟩
  refine ⟨(dat7 V c).arrAt_eq_of_covers 4 _ (by decide +kernel) fun t hf y => ?_,
    (dat7 V c).arrAt_eq_of_covers 5 _ (by decide +kernel) fun t hf y => ?_,
    (dat7 V c).arrAt_eq_of_covers 6 _ (by decide +kernel) fun t hf y => ?_⟩ <;> blk_simp
  · exact block_rows t _ (fun i => qkv P (X (i 0)) (qcol (i 1))) _ (fun r k => emb_at win7_4 t (ix2 r k) _ (rows_coords t r k (rows7 t).2.1))
      (fun r k => by rw [after7_4, out7_q_eq]; exact (blk t).query hX hP r k) y
  · exact block_rows t _ (fun i => qkv P (X (i 0)) (kcol (i 1))) _ (fun r k => emb_at win7_5 t (ix2 r k) _ (rows_coords t r k (rows7 t).2.2.1))
      (fun r k => by rw [after7_5, out7_k_eq]; exact (blk t).key hX hP r k) y
  · exact block_rows t _ (fun i => qkv P (X (i 0)) (vcol (i 1))) _ (fun r k => emb_at win7_6 t (ix2 r k) _ (rows_coords t r k (rows7 t).2.2.2))
      (fun r k => by rw [after7_6, out7_v_eq]; exact (blk t).value hX hP r k) y

/-! ## The attention call -/

/-- The windows that hold whole arrays at every step. -/
theorem zero8 : ∀ t : Fin grid8.N, (win8_1.index t = fun _ => 0) ∧ (win8_2.index t = fun _ => 0) ∧ (win8_5.index t = fun _ => 0)
    ∧ (win8_6.index t = fun _ => 0) ∧ (win8_7.index t = fun _ => 0) ∧ (win8_8.index t = fun _ => 0) ∧ (win8_9.index t = fun _ => 0)
    ∧ (win8_10.index t = fun _ => 0) ∧ (win8_11.index t = fun _ => 0) ∧ (win8_12.index t = fun _ => 0) := by
  decide +kernel
/-- The windows that hold step `t`'s block of rows. -/
theorem rows8 : ∀ t : Fin grid8.N, win8_0.index t = ![t.val, 0] ∧ win8_3.index t = ![t.val, 0] ∧ win8_4.index t = ![t.val, 0]
    ∧ win8_13.index t = ![t.val, 0] := by
  decide +kernel

set_option maxHeartbeats 2000000 in
/-- The layer's output array after the attention call. -/
theorem attn8 (M : Fin 4096 → Fin 4096 → Prop) [∀ r n, Decidable (M r n)]
    (hR : AttnRows P X M (V c main_v103_0) (V c main_v103_1) (V c main_v103_2) (V c main_v1) (V c main_v94))
    (hP : AttnArgs P (V c main_v105) (V c main_v108) (V c main_v111) (V c main_v114) (V c main_v116) (V c main_v119) (V c main_v121)
      (V c main_v124)) :
    (dat8 V c).arrAt 13 cfg8.N = fun i => layerM M P X (i 0) (i 1) := by
  refine (dat8 V c).arrAt_eq_of_covers 13 _ (by decide +kernel) fun t hf y => ?_
  blk_simp
  obtain ⟨z1, z2, z5, z6, z7, z8, z9, z10, z11, z12⟩ := zero8 t
  obtain ⟨r0, r3, r4, r13⟩ := rows8 t
  refine block_rows t _ (fun i => layerM M P X (i 0) (i 1)) _ (fun r k => emb_at win8_13 t (ix2 r k) _ (rows_coords t r k r13)) ?_ y
  rw [after8_13, out8_eq]
  exact attn_row hR hP t
    (fun r k => congrArg (V c main_v103_0) (emb_at win8_0 t (ix2 r k) _ (rows_coords t r k r0)))
    (funext fun y => congrArg (V c main_v103_1) (emb_zero win8_1 t y y z1 fun _ => rfl))
    (funext fun y => congrArg (V c main_v103_2) (emb_zero win8_2 t y y z2 fun _ => rfl))
    (fun r n => congrArg (V c main_v1) (emb_at win8_3 t (ix2 r n) _ (rows_coords t r n r3)))
    (fun r k => congrArg (V c main_v94) (emb_at win8_4 t (ix2 r k) _ (rows_coords t r k r4)))
    (funext fun y => congrArg (V c main_v105) (emb_zero win8_5 t y y z5 fun _ => rfl))
    (funext fun y => congrArg (V c main_v108) (emb_zero win8_6 t y y z6 fun _ => rfl))
    (funext fun y => congrArg (V c main_v111) (emb_zero win8_7 t y y z7 fun _ => rfl))
    (funext fun y => congrArg (V c main_v114) (emb_zero win8_8 t y y z8 fun _ => rfl))
    (funext fun y => congrArg (V c main_v116) (emb_zero win8_9 t y y z9 fun _ => rfl))
    (funext fun y => congrArg (V c main_v119) (emb_zero win8_10 t y y z10 fun _ => rfl))
    (funext fun y => congrArg (V c main_v121) (emb_zero win8_11 t y y z11 fun _ => rfl))
    (funext fun y => congrArg (V c main_v124) (emb_zero win8_12 t y y z12 fun _ => rfl))

end Cert.Proof

end
-- ==== Proof.Chain.lean ====
/-
  The kernel's four layers composed: the mask array, then each layer's output array from the one before it, down to
  the result.
-/
module

public import proofs.«01_k».proof.Proof.MaskArray
public import proofs.«01_k».proof.Proof.Weights
public import proofs.«01_k».proof.Proof.Layer1
public import proofs.«01_k».proof.Proof.Layer2
public import proofs.«01_k».proof.Proof.Layer3
public import proofs.«01_k».proof.Proof.Layer4
public import proofs.«01_k».proof.Proof.Gen.KernelIdeal.Frame.Fold0

@[expose] public section

set_option maxRecDepth 16384

noncomputable section

namespace Cert.Proof

open Idealize.ShloMosaic Idealize.ShloMosaic.TcCoe Cert.KernelIdeal Cert.KernelIdeal.Gen Cert.KernelIdeal.Facts

variable (m : (ℓ : Loc nD τ sig) → Buf (Elt Ideal) ℓ) (ρ : Dev nD → PrngReg) (c : Dev nD)

/-- Layer `l`'s weights among the kernel's arguments. -/
def kernelWeights (l : Fin 4) : Params :=
  weights (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) l

/-- The weights read off any contents that keep the arguments are the arguments'. -/
theorem argWeights_eq {U : Valuation τ sig (Elt Ideal)} (h : ∀ a ∈ argRefs, U (Proc.devRef .tc a) = m ((c : Thread nD τ).loc a)) (l : Fin 4) :
    argWeights U l = kernelWeights m c l := by
  unfold argWeights kernelWeights
  rw [h main_arg2 (by decide), h main_arg3 (by decide), h main_arg4 (by decide), h main_arg5 (by decide), h main_arg6 (by decide),
    h main_arg7 (by decide), h main_arg8 (by decide), h main_arg9 (by decide), h main_arg10 (by decide), h main_arg11 (by decide),
    h main_arg12 (by decide)]

/-- The points and the rows among the arguments. -/
def points (p : FVec Ideal ⟨2, ![4096, 3]⟩ .f32) (r : Fin 4096) (x : Fin 3) : EReal := p (ix2 r x)
def rows (x : FVec Ideal ⟨2, ![4096, 256]⟩ .f32) (r : Fin 4096) (k : Fin 256) : EReal := x (ix2 r k)

/-- The mask array marks each row's picks once its call is done. -/
theorem chain0 (p : Fin 4096 → Fin 3 → EReal) (hp : ∀ r x, IsReal (p r x)) (he : ∀ r x, m ((c : Thread nD τ).loc main_arg0) (ix2 r x) = p r x)
    (r n : Fin 4096) : Marks p r n (W2 m ρ c (Proc.devRef .tc main_v1) (ix2 r n)) := by
  have h := mask0 (V1 m ρ) c p hp
    (fun r x => (congrFun (W1_args m ρ c main_arg0 (by decide)) (ix2 r x)).trans (he r x))
    (fun x n => (host0 (W0 m ρ c) x n).trans (he n x)) r n
  exact (congrFun (W2_arr m ρ c 2) (ix2 r n)).symm ▸ h

/-- Equal mask arrays mark the same columns. -/
theorem mask_same {M : Fin 4096 → Fin 4096 → Prop} {a b : Vec Ideal S4096x4096 .i8} (e : a = b)
    (h : ∀ r n, (0 : EReal) < (((BitVec.toInt (n := 8) (b (ix2 r n)) : ℤ) : ℝ) : EReal) ↔ M r n) (r n : Fin 4096) :
    (0 : EReal) < (((BitVec.toInt (n := 8) (a (ix2 r n)) : ℤ) : ℝ) : EReal) ↔ M r n := by
  subst e
  exact h r n

variable (X : Fin 4096 → Fin 256 → EReal) (M : Fin 4096 → Fin 4096 → Prop) [∀ r n, Decidable (M r n)]

/-- Layer 1's output array is the masked layer of its input, and the mask array is as before. -/
theorem chain1 (hX : ∀ r k, W2 m ρ c (Proc.devRef .tc main_arg1) (ix2 r k) = X r k)
    (hM : ∀ r n, (0 : EReal) < (((BitVec.toInt (n := 8) (W2 m ρ c (Proc.devRef .tc main_v1) (ix2 r n)) : ℤ) : ℝ) : EReal) ↔ M r n) :
    (∀ r k, W6 m ρ c (Proc.devRef .tc main_v32) (ix2 r k) = layerM M (kernelWeights m c 0) X r k)
    ∧ W6 m ρ c (Proc.devRef .tc main_v1) = W2 m ρ c (Proc.devRef .tc main_v1) := by
  have x := W3_of m ρ c main_arg1 (by decide)
  have k := (W5_of m ρ c main_v1 (by decide)).trans ((W4_of m ρ c main_v1 (by decide)).trans (W3_of m ρ c main_v1 (by decide)))
  have pr := proj1 (V3 m ρ) c (kernelWeights m c 0) X (fun r k => (congrFun x _).trans (hX r k))
    (argWeights_eq m c (W2_args m ρ c) 0 ▸ host1 (W2 m ρ c))
  have at_ := attn2 (V5 m ρ) c (kernelWeights m c 0) X M
    ⟨(W5_of m ρ c main_v10_0 (by decide)).trans ((W4_arr m ρ c 4).trans pr.1),
      (W5_of m ρ c main_v10_1 (by decide)).trans ((W4_arr m ρ c 5).trans pr.2.1),
      (W5_of m ρ c main_v10_2 (by decide)).trans ((W4_arr m ρ c 6).trans pr.2.2), mask_same k hM,
      fun r k => (congrFun ((W5_of m ρ c main_arg1 (by decide)).trans ((W4_of m ρ c main_arg1 (by decide)).trans x)) _).trans (hX r k)⟩
    (argWeights_eq m c (W4_args m ρ c) 0 ▸ host2 (W4 m ρ c))
  exact ⟨fun r k => congrFun ((W6_arr m ρ c 13).trans at_) (ix2 r k), (W6_of m ρ c main_v1 (by decide)).trans k⟩

/-- Layer 2's output array is the masked layer of its input, and the mask array is as before. -/
theorem chain2 (hX : ∀ r k, W6 m ρ c (Proc.devRef .tc main_v32) (ix2 r k) = X r k)
    (hM : ∀ r n, (0 : EReal) < (((BitVec.toInt (n := 8) (W6 m ρ c (Proc.devRef .tc main_v1) (ix2 r n)) : ℤ) : ℝ) : EReal) ↔ M r n) :
    (∀ r k, W10 m ρ c (Proc.devRef .tc main_v63) (ix2 r k) = layerM M (kernelWeights m c 1) X r k)
    ∧ W10 m ρ c (Proc.devRef .tc main_v1) = W6 m ρ c (Proc.devRef .tc main_v1) := by
  have x := W7_of m ρ c main_v32 (by decide)
  have k := (W9_of m ρ c main_v1 (by decide)).trans ((W8_of m ρ c main_v1 (by decide)).trans (W7_of m ρ c main_v1 (by decide)))
  have pr := proj3 (V7 m ρ) c (kernelWeights m c 1) X (fun r k => (congrFun x _).trans (hX r k))
    (argWeights_eq m c (W6_args m ρ c) 1 ▸ host3 (W6 m ρ c))
  have at_ := attn4 (V9 m ρ) c (kernelWeights m c 1) X M
    ⟨(W9_of m ρ c main_v41_0 (by decide)).trans ((W8_arr m ρ c 4).trans pr.1),
      (W9_of m ρ c main_v41_1 (by decide)).trans ((W8_arr m ρ c 5).trans pr.2.1),
      (W9_of m ρ c main_v41_2 (by decide)).trans ((W8_arr m ρ c 6).trans pr.2.2), mask_same k hM,
      fun r k => (congrFun ((W9_of m ρ c main_v32 (by decide)).trans ((W8_of m ρ c main_v32 (by decide)).trans x)) _).trans (hX r k)⟩
    (argWeights_eq m c (W8_args m ρ c) 1 ▸ host4 (W8 m ρ c))
  exact ⟨fun r k => congrFun ((W10_arr m ρ c 13).trans at_) (ix2 r k), (W10_of m ρ c main_v1 (by decide)).trans k⟩

/-- Layer 3's output array is the masked layer of its input, and the mask array is as before. -/
theorem chain3 (hX : ∀ r k, W10 m ρ c (Proc.devRef .tc main_v63) (ix2 r k) = X r k)
    (hM : ∀ r n, (0 : EReal) < (((BitVec.toInt (n := 8) (W10 m ρ c (Proc.devRef .tc main_v1) (ix2 r n)) : ℤ) : ℝ) : EReal) ↔ M r n) :
    (∀ r k, W14 m ρ c (Proc.devRef .tc main_v94) (ix2 r k) = layerM M (kernelWeights m c 2) X r k)
    ∧ W14 m ρ c (Proc.devRef .tc main_v1) = W10 m ρ c (Proc.devRef .tc main_v1) := by
  have x := W11_of m ρ c main_v63 (by decide)
  have k := (W13_of m ρ c main_v1 (by decide)).trans ((W12_of m ρ c main_v1 (by decide)).trans (W11_of m ρ c main_v1 (by decide)))
  have pr := proj5 (V11 m ρ) c (kernelWeights m c 2) X (fun r k => (congrFun x _).trans (hX r k))
    (argWeights_eq m c (W10_args m ρ c) 2 ▸ host5 (W10 m ρ c))
  have at_ := attn6 (V13 m ρ) c (kernelWeights m c 2) X M
    ⟨(W13_of m ρ c main_v72_0 (by decide)).trans ((W12_arr m ρ c 4).trans pr.1),
      (W13_of m ρ c main_v72_1 (by decide)).trans ((W12_arr m ρ c 5).trans pr.2.1),
      (W13_of m ρ c main_v72_2 (by decide)).trans ((W12_arr m ρ c 6).trans pr.2.2), mask_same k hM,
      fun r k => (congrFun ((W13_of m ρ c main_v63 (by decide)).trans ((W12_of m ρ c main_v63 (by decide)).trans x)) _).trans (hX r k)⟩
    (argWeights_eq m c (W12_args m ρ c) 2 ▸ host6 (W12 m ρ c))
  exact ⟨fun r k => congrFun ((W14_arr m ρ c 13).trans at_) (ix2 r k), (W14_of m ρ c main_v1 (by decide)).trans k⟩

/-- Layer 4's output array is the masked layer of its input, and the mask array is as before. -/
theorem chain4 (hX : ∀ r k, W14 m ρ c (Proc.devRef .tc main_v94) (ix2 r k) = X r k)
    (hM : ∀ r n, (0 : EReal) < (((BitVec.toInt (n := 8) (W14 m ρ c (Proc.devRef .tc main_v1) (ix2 r n)) : ℤ) : ℝ) : EReal) ↔ M r n) :
    (∀ r k, W18 m ρ c (Proc.devRef .tc main_v125) (ix2 r k) = layerM M (kernelWeights m c 3) X r k)
    ∧ W18 m ρ c (Proc.devRef .tc main_v1) = W14 m ρ c (Proc.devRef .tc main_v1) := by
  have x := W15_of m ρ c main_v94 (by decide)
  have k := (W17_of m ρ c main_v1 (by decide)).trans ((W16_of m ρ c main_v1 (by decide)).trans (W15_of m ρ c main_v1 (by decide)))
  have pr := proj7 (V15 m ρ) c (kernelWeights m c 3) X (fun r k => (congrFun x _).trans (hX r k))
    (argWeights_eq m c (W14_args m ρ c) 3 ▸ host7 (W14 m ρ c))
  have at_ := attn8 (V17 m ρ) c (kernelWeights m c 3) X M
    ⟨(W17_of m ρ c main_v103_0 (by decide)).trans ((W16_arr m ρ c 4).trans pr.1),
      (W17_of m ρ c main_v103_1 (by decide)).trans ((W16_arr m ρ c 5).trans pr.2.1),
      (W17_of m ρ c main_v103_2 (by decide)).trans ((W16_arr m ρ c 6).trans pr.2.2), mask_same k hM,
      fun r k => (congrFun ((W17_of m ρ c main_v94 (by decide)).trans ((W16_of m ρ c main_v94 (by decide)).trans x)) _).trans (hX r k)⟩
    (argWeights_eq m c (W16_args m ρ c) 3 ▸ host8 (W16 m ρ c))
  exact ⟨fun r k => congrFun ((W18_arr m ρ c 13).trans at_) (ix2 r k), (W18_of m ρ c main_v1 (by decide)).trans k⟩

end Cert.Proof

end
-- ==== Proof.ChainAll.lean ====
/-
  The four layers in a row: the kernel's result, as a function of its arguments.
-/
module

public import proofs.«01_k».proof.Proof.Chain

@[expose] public section

set_option maxRecDepth 16384

noncomputable section

namespace Cert.Proof

open Idealize.ShloMosaic Idealize.ShloMosaic.TcCoe Cert.KernelIdeal Cert.KernelIdeal.Gen Cert.KernelIdeal.Facts

/-- `n` is one of row `r`'s sixteen picks. -/
def Picked (p : Fin 4096 → Fin 3 → EReal) (r n : Fin 4096) : Prop := ∃ t : Fin 16, pick (dist p r) t.val = n

open Classical in
/-- The four layers over masked attention. -/
def fourM (p : Fin 4096 → Fin 3 → EReal) (P : Fin 4 → Params) (X : Fin 4096 → Fin 256 → EReal) : Fin 4096 → Fin 256 → EReal :=
  layerM (Picked p) (P 3) (layerM (Picked p) (P 2) (layerM (Picked p) (P 1) (layerM (Picked p) (P 0) X)))

open Classical in
/-- The kernel's result array. -/
theorem chain (m : (ℓ : Loc nD τ sig) → Buf (Elt Ideal) ℓ) (ρ : Dev nD → PrngReg) (c : Dev nD)
    (p : Fin 4096 → Fin 3 → EReal) (hp : ∀ r x, IsReal (p r x)) (he : ∀ r x, m ((c : Thread nD τ).loc main_arg0) (ix2 r x) = p r x)
    (X : Fin 4096 → Fin 256 → EReal) (hX : ∀ r k, m ((c : Thread nD τ).loc main_arg1) (ix2 r k) = X r k) :
    W18 m ρ c (Proc.devRef .tc main_v125) = fun i => fourM p (kernelWeights m c) X (i 0) (i 1) := by
  have hM : ∀ r n, _ ↔ Picked p r n := chain0 m ρ c p hp he
  obtain ⟨x1, k1⟩ := chain1 m ρ c X (Picked p) (fun r k => (congrFun (W2_args m ρ c main_arg1 (by decide)) _).trans (hX r k)) hM
  obtain ⟨x2, k2⟩ := chain2 m ρ c _ (Picked p) x1 (by rw [k1]; exact hM)
  obtain ⟨x3, k3⟩ := chain3 m ρ c _ (Picked p) x2 (by rw [k2, k1]; exact hM)
  obtain ⟨x4, -⟩ := chain4 m ρ c _ (Picked p) x3 (by rw [k3, k2, k1]; exact hM)
  funext i
  rw [eq_ix2 i]
  exact x4 _ _

end Cert.Proof

end
-- ==== Proof.Finite.lean ====
/-
  What the precondition says: the points, the first norm's scale and shift, and the projection's query and key columns
  are real numbers.
-/
module

public import proofs.«01_k».proof.Proof.Frames
public import proofs.«01_k».proof.Proof.Chain

@[expose] public section

set_option maxRecDepth 16384

noncomputable section

namespace Cert.Proof

open Idealize.ShloMosaic Idealize.ShloMosaic.TcCoe Cert.KernelIdeal

/-- An extended real whose difference with itself is zero is a real number. -/
theorem isReal_of_sub_self (x : EReal) (h : x - x = 0) : IsReal x := by
  induction x using EReal.rec with
  | bot => exact absurd h (by simp [sub_eq_add_neg])
  | top => exact absurd h (by simp [sub_eq_add_neg])
  | coe r => exact ⟨r, rfl⟩

/-- An array whose check is all ones has real entries. -/
theorem isReal_of_check {s : Shape} (x : FVec Ideal s .f32) (h : (⟨0, ![]⟩ : Shape).BroadcastsInDim s ![])
    (e : cmpf .oeq (subf x x) (broadcastInDim s ![] h (constant ⟨0, ![]⟩ .f32 0x00000000#32)) = fun _ => 1#1) (i : s.Idx) : IsReal (x i) := by
  have he : BitVec.ofBool (decide (x i - x i = Ideal.ofBits .f32 0x00000000#32)) = 1#1 := congrFun e i
  have hz : Ideal.ofBits .f32 0x00000000#32 = 0 := by simp [Ideal.ofBits, Ideal.ieee]
  rw [hz] at he
  refine isReal_of_sub_self _ (by_contra fun hn => ?_)
  rw [decide_eq_false hn] at he
  exact absurd he (by decide)

variable (m : (ℓ : Loc nD τ sig) → Buf (Elt Ideal) ℓ) [Cert.Pre_scores_finite.Facts] (h : Cert.Pre_KernelIdeal_scores_finite m) (c : Dev nD)

include h

/-- The points. -/
theorem isReal_points (r : Fin 4096) (x : Fin 3) : IsReal (m ((c : Thread nD τ).loc main_arg0) (ix2 r x)) :=
  isReal_of_check _ _ (h c).1 _

/-- The weights the scores depend on, of each layer. -/
theorem isReal_weights (l : Fin 4) : (kernelWeights m c l).Fin' := by
  obtain ⟨-, h2, h3, h4⟩ := h c
  refine ⟨fun _ => isReal_of_check _ _ h2 _, fun _ => isReal_of_check _ _ h3 _, fun k j hj => ?_⟩
  have e := isReal_of_check _ _ h4 (ix3 l k ⟨j.val, hj⟩)
  have hi : m ((c : Thread nD τ).loc main_arg4) (ix3 l k j) = extractStridedSlice ⟨3, ![4, 256, 512]⟩ ![0, 0, 0]
      (m ((c : Thread nD τ).loc main_arg4)) Cert.Pre_scores_finite.Facts.slices_S4x256x768_S4x256x512_0_0_0 (ix3 l k ⟨j.val, hj⟩) := by
    refine congrArg _ (funext fun a => Fin.ext ?_)
    fin_cases a <;> exact (Nat.zero_add _).symm
  show IsReal (m ((c : Thread nD τ).loc main_arg4) (ix3 l k j))
  rw [hi]
  exact e

end Cert.Proof

end
-- ==== Proof.Launch.lean ====
/-
  The idealized kernel's run with its result: the launch of the generated frame, read at the result array too.
-/
module

public import proofs.«01_k».proof.Proof.Gen.KernelIdeal.Frame
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at the last segment's contents of it. -/
theorem result_run : θ_run defs (onTc (τ := τ) (main (F := F))) ⟨m, fun _ => 0, ρ⟩ (fun r => ∀ c : Dev nD,
      r.2.mem ((c.tc : Thread nD τ).loc main_v125) = W18 m ρ c (Proc.devRef .tc main_v125)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h _ => fun c => h c _ (mem_uc main_v125 (by decide)))

end Cert.KernelIdeal.Gen

end
-- ==== Proof.RefParts.lean ====
/-
  The reference's array operations of one layer, part by part, each read at an index in the layer's terms: the
  projection of the normalized rows, the rows a table of indices names, the scores against them, the softmax, the
  rows after attention, the perceptron.
-/
module

public import proofs.«01_k».proof.Proof.Gen.ReferenceIdeal
public import proofs.«01_k».proof.Proof.Spec
public import Idealize.ShloMosaic.Lib.Pointwise
public import Idealize.ShloMosaic.Lib.Tactic.CleanTypes
public import Idealize.ShloMosaic.PureOps.Ideal.Laws
public import Idealize.ShloMosaic.Lib.IdealHost
public import Idealize.ShloMosaic.Lib.ValueIdxCore

@[expose] public section

set_option maxRecDepth 16384

noncomputable section

namespace Cert.Proof.Reference

open Idealize.ShloMosaic Cert.ReferenceIdeal Cert.ReferenceIdeal.Gen Cert.ReferenceIdeal.Facts

/-- The rows' means, as a column. -/
def meansV (x : FVec Ideal S4096x256 .f32) : FVec Ideal S4096x1 .f32 :=
  Host.divf (broadcastInDim S4096x1 ![0] bcast_S4096_S4096x1_0 (Host.reduceAdd x (constant S_ .f32 0x00000000#32) reducesTo_S4096x256_S4096_d1 h_S_)) (broadcastInDim S4096x1 ![] bcast_S_S4096x1 (constant S_ .f32 0x43800000#32))

/-- The rows less their means. -/
def centredV (x : FVec Ideal S4096x256 .f32) : FVec Ideal S4096x256 .f32 :=
  subf x (broadcastInDim S4096x256 ![0, 1] bcast_S4096x1_S4096x256_0_1 (meansV x))

/-- A vector under every row. -/
def underV (g : FVec Ideal S256 .f32) : FVec Ideal S4096x256 .f32 :=
  broadcastInDim S4096x256 ![0, 1] bcast_S1x256_S4096x256_0_1 (broadcastInDim S1x256 ![1] bcast_S256_S1x256_1 g)

/-- The rows normalized. -/
def normV (x : FVec Ideal S4096x256 .f32) (g b : FVec Ideal S256 .f32) : FVec Ideal S4096x256 .f32 :=
  addf (mulf (Host.divf (centredV x) (broadcastInDim S4096x256 ![0, 1] bcast_S4096x1_S4096x256_0_1 (Host.sqrt (addf (Host.divf (broadcastInDim S4096x1 ![0] bcast_S4096_S4096x1_0 (Host.reduceAdd (mulf (centredV x) (centredV x)) (constant S_ .f32 0x00000000#32) reducesTo_S4096x256_S4096_d1 h_S_)) (broadcastInDim S4096x1 ![] bcast_S_S4096x1 (constant S_ .f32 0x43800000#32))) (broadcastInDim S4096x1 ![] bcast_S_S4096x1 (constant S_ .f32 0x3727C5AC#32)))))) (underV g)) (underV b)

/-- Their projection. -/
def projV (x : FVec Ideal S4096x256 .f32) (g b : FVec Ideal S256 .f32) (w : FVec Ideal S256x768 .f32) : FVec Ideal S4096x768 .f32 :=
  Host.dotGeneral dot_S4096x256_S256x768_S4096x768_1_0_0_1_n_n none (normV x g b) w

/-- The table of row indices with negative ones counted from the end. -/
def tableV (idx : IVec S4096x16 32) : IVec S4096x16x1 32 :=
  broadcastInDim S4096x16x1 ![0, 1] bcast_S4096x16_S4096x16x1_0_1 (select (cmpi .slt idx (broadcastInDim S4096x16 ![] bcast_S_S4096x16 (constantI S_ 32 0#32))) (addi idx (broadcastInDim S4096x16 ![] bcast_S_S4096x16 (constantI S_ 32 4096#32))) idx)

/-- The rows the table names. -/
def gatherV (x : FVec Ideal S4096x256 .f32) (idx : IVec S4096x16 32) : FVec Ideal S4096x16x256 .f32 :=
  Host.gather gather_S4096x256_S4096x16x1_S4096x16x256_2_0_n_n_0_2_1256 x (tableV idx)

/-- The scaled products of the queries with the keys named. -/
def scoresV (q : FVec Ideal S4096x256 .f32) (k : FVec Ideal S4096x16x256 .f32) : FVec Ideal S4096x16 .f32 :=
  mulf (Host.dotGeneral dot_S4096x256_S4096x16x256_S4096x16_1_2_n_1_0_0 none q k) (broadcastInDim S4096x16 ![] bcast_S_S4096x16 (constant S_ .f32 0x3D800000#32))

/-- The exponentials of the scores less their row's greatest. -/
def expsV (s : FVec Ideal S4096x16 .f32) : FVec Ideal S4096x16 .f32 :=
  Host.exp (subf s (broadcastInDim S4096x16 ![0, 1] bcast_S4096x1_S4096x16_0_1 (broadcastInDim S4096x1 ![0] bcast_S4096_S4096x1_0 (maximumf (broadcastInDim S4096 ![] bcast_S_S4096 (constant S_ .f32 0xFF800000#32)) (Host.reduce FloatOps.maximumf s (constant S_ .f32 0xFF800000#32) reducesTo_S4096x16_S4096_d1 h_S_)))))

/-- The mixture of the values named. -/
def mixV (e : FVec Ideal S4096x16 .f32) (v : FVec Ideal S4096x16x256 .f32) : FVec Ideal S4096x256 .f32 :=
  Host.dotGeneral dot_S4096x16_S4096x16x256_S4096x256_1_1_n_2_0_0 none (Host.divf e (broadcastInDim S4096x16 ![0, 1] bcast_S4096x1_S4096x16_0_1 (broadcastInDim S4096x1 ![0] bcast_S4096_S4096x1_0 (Host.reduceAdd e (constant S_ .f32 0x00000000#32) reducesTo_S4096x16_S4096_d1 h_S_)))) v

/-- The rows after attention. -/
def afterAttnV (x a : FVec Ideal S4096x256 .f32) (wp : FVec Ideal S256x256 .f32) (bp : FVec Ideal S256 .f32) : FVec Ideal S4096x256 .f32 :=
  addf x (addf (Host.dotGeneral dot_S4096x256_S256x256_S4096x256_1_0_0_1_n_n none a wp) (underV bp))

/-- The perceptron's inner layer. -/
def hiddenV (y : FVec Ideal S4096x256 .f32) (g b : FVec Ideal S256 .f32) (w : FVec Ideal S256x1024 .f32) (c : FVec Ideal S1024 .f32) :
    FVec Ideal S4096x1024 .f32 :=
  addf (Host.dotGeneral dot_S4096x256_S256x1024_S4096x1024_1_0_0_1_n_n none (normV y g b) w) (broadcastInDim S4096x1024 ![0, 1] bcast_S1x1024_S4096x1024_0_1 (broadcastInDim S1x1024 ![1] bcast_S1024_S1x1024_1 c))

/-- The rows after the perceptron. -/
def afterMlpV (y : FVec Ideal S4096x256 .f32) (h : FVec Ideal S4096x1024 .f32) (w : FVec Ideal S1024x256 .f32) (c : FVec Ideal S256 .f32) :
    FVec Ideal S4096x256 .f32 :=
  addf y (addf (Host.dotGeneral dot_S4096x1024_S1024x256_S4096x256_1_0_0_1_n_n none (mulf (mulf (broadcastInDim S4096x1024 ![] bcast_S_S4096x1024 (constant S_ .f32 0x3F000000#32)) h) (Host.erfc (mulf (Host.negf h) (broadcastInDim S4096x1024 ![] bcast_S_S4096x1024 (constant S_ .f32 0x3F3504F3#32))))) w) (underV c))

/-! ## Read at an index -/

theorem meansV_at (x : FVec Ideal S4096x256 .f32) (r : Fin 4096) : meansV x (ix2 r 0) = mean fun k => x (ix2 r k) := by
  unfold meansV mean
  pointwise

theorem centredV_at (x : FVec Ideal S4096x256 .f32) (r : Fin 4096) (k : Fin 256) :
    centredV x (ix2 r k) = x (ix2 r k) - mean fun k => x (ix2 r k) := by
  rw [← meansV_at]
  unfold centredV
  pointwise

theorem underV_at (g : FVec Ideal S256 .f32) (r : Fin 4096) (k : Fin 256) : underV g (ix2 r k) = g (ix1 k) := by
  unfold underV
  pointwise

theorem normV_at (x : FVec Ideal S4096x256 .f32) (g b : FVec Ideal S256 .f32) (r : Fin 4096) (k : Fin 256) :
    normV x g b (ix2 r k) = ln (fun k => g (ix1 k)) (fun k => b (ix1 k)) (fun k => x (ix2 r k)) k := by
  unfold ln variance
  simp only [← centredV_at, ← underV_at (r := r)]
  unfold normV
  pointwise

theorem projV_at (x : FVec Ideal S4096x256 .f32) (g b : FVec Ideal S256 .f32) (w : FVec Ideal S256x768 .f32) (r : Fin 4096) (j : Fin 768) :
    projV x g b w (ix2 r j) = ∑ k, ln (fun k => g (ix1 k)) (fun k => b (ix1 k)) (fun k => x (ix2 r k)) k * w (ix2 k j) := by
  simp only [← normV_at]
  unfold projV
  pointwise

theorem scoresV_at (q : FVec Ideal S4096x256 .f32) (k : FVec Ideal S4096x16x256 .f32) (r : Fin 4096) (t : Fin 16) :
    scoresV q k (ix2 r t) = score (fun c => q (ix2 r c)) fun c => k (ix3 r t c) := by
  unfold scoresV score
  pointwise

/-- The least float is minus infinity. -/
theorem leastBits : Ideal.ofBits .f32 0xFF800000#32 = (⊥ : EReal) := by simp [Ideal.ofBits, Ideal.ieee]

theorem expsV_at (s : FVec Ideal S4096x16 .f32) (r : Fin 4096) (t : Fin 16) :
    expsV s (ix2 r t) = Ideal.exp (s (ix2 r t) - Finset.univ.fold max (⊥ : EReal) fun t => s (ix2 r t)) := by
  unfold expsV
  clean_types
  pointwise
  rw [leastBits, max_eq_right bot_le]

theorem mixV_at (e : FVec Ideal S4096x16 .f32) (v : FVec Ideal S4096x16x256 .f32) (r : Fin 4096) (c : Fin 256) :
    mixV e v (ix2 r c) = ∑ t, Ideal.div (e (ix2 r t)) (∑ t, e (ix2 r t)) * v (ix3 r t c) := by
  unfold mixV
  pointwise

theorem afterAttnV_at (x a : FVec Ideal S4096x256 .f32) (wp : FVec Ideal S256x256 .f32) (bp : FVec Ideal S256 .f32) (r : Fin 4096) (c : Fin 256) :
    afterAttnV x a wp bp (ix2 r c) = x (ix2 r c) + (∑ k, a (ix2 r k) * wp (ix2 k c) + bp (ix1 c)) := by
  rw [← underV_at bp r c]
  unfold afterAttnV
  pointwise

theorem hiddenV_at (y : FVec Ideal S4096x256 .f32) (g b : FVec Ideal S256 .f32) (w : FVec Ideal S256x1024 .f32) (c : FVec Ideal S1024 .f32)
    (r : Fin 4096) (j : Fin 1024) :
    hiddenV y g b w c (ix2 r j)
      = ∑ k, ln (fun k => g (ix1 k)) (fun k => b (ix1 k)) (fun k => y (ix2 r k)) k * w (ix2 k j) + c (ix1 j) := by
  simp only [← normV_at]
  unfold hiddenV
  pointwise

theorem afterMlpV_at (y : FVec Ideal S4096x256 .f32) (h : FVec Ideal S4096x1024 .f32) (w : FVec Ideal S1024x256 .f32) (c : FVec Ideal S256 .f32)
    (r : Fin 4096) (k : Fin 256) :
    afterMlpV y h w c (ix2 r k) = y (ix2 r k) + (∑ j, gelu (h (ix2 r j)) * w (ix2 j k) + c (ix1 k)) := by
  simp only [← gelu_erfc]
  rw [← underV_at c r k]
  unfold afterMlpV
  pointwise

/-- The dimension numbers of whole rows of `[N, C]` taken at a table `[B, K, 1]` of row indices. -/
abbrev rowsDims (N C B K : Nat) (wf : GatherDims.WF ⟨2, ![N, C]⟩ ⟨3, ![B, K, 1]⟩ ⟨3, ![B, K, C]⟩ [2] [0] [] [0] [] 2 ![1, C]) :
    GatherDims ⟨2, ![N, C]⟩ ⟨3, ![B, K, 1]⟩ ⟨3, ![B, K, C]⟩ where
  offsetDims := [2]
  collapsedSliceDims := [0]
  operandBatchingDims := []
  startIndicesBatchingDims := []
  startIndexMap := [0]
  indexVectorDim := 2
  sliceSizes := ![1, C]
  wf := wf

/-- Such a gather at an index: the operand's row at the table's word, read signed and clamped. -/
theorem gather_rows_at {α : Type} {N C B K w : Nat} (hN : 0 < N)
    (wf : GatherDims.WF ⟨2, ![N, C]⟩ ⟨3, ![B, K, 1]⟩ ⟨3, ![B, K, C]⟩ [2] [0] [] [0] [] 2 ![1, C])
    (x : (⟨2, ![N, C]⟩ : Shape).Idx → α) (idx : IVec ⟨3, ![B, K, 1]⟩ w) (b : Fin B) (t : Fin K) (c : Fin C) :
    Host.gather (rowsDims N C B K wf) x idx (ix3 b t c)
      = x (ix2 ⟨min (idx (ix3 b t 0)).toInt.toNat (N - 1), by omega⟩ c) := by
  unfold Host.gather
  congr 1
  funext a
  refine Fin.ext ?_
  show (rowsDims N C B K wf).start (ix3 b t c) idx a + (rowsDims N C B K wf).batchCoord (ix3 b t c) a
      + (rowsDims N C B K wf).offCoord (ix3 b t c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C B K wf).startIndexMap from List.mem_singleton.mpr rfl)]
    have hsi : (rowsDims N C B K wf).siIdx (ix3 b t c) ⟨List.idxOf (0 : Fin 2) (rowsDims N C B K wf).startIndexMap,
        List.idxOf_lt_length_iff.2 (List.mem_singleton.mpr rfl)⟩ = ix3 b t 0 := by
      funext d; refine Fin.ext ?_
      match d with
      | ⟨0, _⟩ => rfl
      | ⟨1, _⟩ => rfl
      | ⟨2, _⟩ => rfl
    rw [hsi]
    rfl
  · have hs : (rowsDims N C B K wf).start (ix3 b t c) idx 1 = 0 := by
      unfold GatherDims.start
      rw [dif_neg (by simp)]
    rw [hs]
    simp only [Nat.zero_add]
    unfold GatherDims.offCoord
    rw [dif_pos ((GatherDims.mem_sKept _ _).mpr ⟨by simp, List.not_mem_nil⟩)]
    rfl

/-- The rows named by a table of rows. -/
theorem gatherV_at (x : FVec Ideal S4096x256 .f32) (idx : IVec S4096x16 32) (σ : Fin 4096 → Fin 16 → Fin 4096)
    (hi : ∀ r t, idx (ix2 r t) = BitVec.ofNat 32 (σ r t).val) (r : Fin 4096) (t : Fin 16) (c : Fin 256) :
    gatherV x idx (ix3 r t c) = x (ix2 (σ r t) c) := by
  have hlt := (σ r t).isLt
  have hn : (BitVec.ofNat 32 (σ r t).val).toInt = ((σ r t).val : ℤ) := by
    have h : (BitVec.ofNat 32 (σ r t).val).toNat = (σ r t).val := by
      rw [BitVec.toNat_ofNat]; exact Nat.mod_eq_of_lt (by omega)
    rw [BitVec.toInt_eq_toNat_of_lt (by omega), h]
  have ht : tableV idx (ix3 r t 0) = BitVec.ofNat 32 (σ r t).val := by
    have hs : IntOp.cmpi .slt (BitVec.ofNat 32 (σ r t).val) 0#32 = 0#1 := by
      show BitVec.ofBool (decide (_ < _)) = _
      rw [decide_eq_false (by rw [hn]; simp)]
      rfl
    unfold tableV
    pointwise
    rw [hi, hs]
    rfl
  refine (gather_rows_at (by norm_num) gather_S4096x256_S4096x16x1_S4096x16x256_2_0_n_n_0_2_1256_wf x (tableV idx) r t c).trans ?_
  congr 2
  refine Fin.ext ?_
  show min (tableV idx (ix3 r t 0)).toInt.toNat 4095 = _
  rw [ht, hn, Int.toNat_natCast]
  omega

end Cert.Proof.Reference

end
-- ==== Proof.RefLayer.lean ====
/-
  One layer of the reference, from its array operations to the layer over the rows its table names; the table
  itself; and the weights of a layer cut from the arguments.
-/
module

public import proofs.«01_k».proof.Proof.RefParts
public import proofs.«01_k».proof.Proof.Picks
public import proofs.«01_k».proof.Proof.Weights

@[expose] public section

set_option maxRecDepth 16384

noncomputable section

namespace Cert.Proof.Reference

open Idealize.ShloMosaic Cert.ReferenceIdeal Cert.ReferenceIdeal.Gen Cert.ReferenceIdeal.Facts

/-- The query, key and value columns of a projection. -/
def queryV (p : FVec Ideal S4096x768 .f32) : FVec Ideal S4096x256 .f32 := extractStridedSlice S4096x256 ![0, 0] p slices_S4096x768_S4096x256_0_0
def keyV (p : FVec Ideal S4096x768 .f32) : FVec Ideal S4096x256 .f32 := extractStridedSlice S4096x256 ![0, 256] p slices_S4096x768_S4096x256_0_256
def valueV (p : FVec Ideal S4096x768 .f32) : FVec Ideal S4096x256 .f32 := extractStridedSlice S4096x256 ![0, 512] p slices_S4096x768_S4096x256_0_512

theorem queryV_at (p : FVec Ideal S4096x768 .f32) (r : Fin 4096) (c : Fin 256) : queryV p (ix2 r c) = p (ix2 r (qcol c)) := by
  unfold queryV
  pointwise
  rfl

theorem keyV_at (p : FVec Ideal S4096x768 .f32) (r : Fin 4096) (c : Fin 256) : keyV p (ix2 r c) = p (ix2 r (kcol c)) := by
  unfold keyV
  pointwise
  rfl

theorem valueV_at (p : FVec Ideal S4096x768 .f32) (r : Fin 4096) (c : Fin 256) : valueV p (ix2 r c) = p (ix2 r (vcol c)) := by
  unfold valueV
  pointwise
  rfl

/-- The layer's weights as the vectors and matrices the operations take. -/
structure Arrays where
  g1 : FVec Ideal S256 .f32
  b1 : FVec Ideal S256 .f32
  wqkv : FVec Ideal S256x768 .f32
  wp : FVec Ideal S256x256 .f32
  bp : FVec Ideal S256 .f32
  g2 : FVec Ideal S256 .f32
  b2 : FVec Ideal S256 .f32
  w1 : FVec Ideal S256x1024 .f32
  c1 : FVec Ideal S1024 .f32
  w2 : FVec Ideal S1024x256 .f32
  c2 : FVec Ideal S256 .f32

/-- Their entries. -/
def Arrays.params (A : Arrays) : Params where
  g1 k := A.g1 (ix1 k)
  b1 k := A.b1 (ix1 k)
  wqkv k j := A.wqkv (ix2 k j)
  wp k j := A.wp (ix2 k j)
  bp k := A.bp (ix1 k)
  g2 k := A.g2 (ix1 k)
  b2 k := A.b2 (ix1 k)
  w1 k j := A.w1 (ix2 k j)
  c1 k := A.c1 (ix1 k)
  w2 k j := A.w2 (ix2 k j)
  c2 k := A.c2 (ix1 k)

/-- The layer's operations in a row: from the rows `x` and the table `idx` to the rows `z`. -/
structure Layer (A : Arrays) (idx : IVec S4096x16 32) (x z : FVec Ideal S4096x256 .f32) (p : FVec Ideal S4096x768 .f32)
    (s e : FVec Ideal S4096x16 .f32) (y : FVec Ideal S4096x256 .f32) (h : FVec Ideal S4096x1024 .f32) : Prop where
  ep : p = projV x A.g1 A.b1 A.wqkv
  es : s = scoresV (queryV p) (gatherV (keyV p) idx)
  ee : e = expsV s
  ey : y = afterAttnV x (mixV e (gatherV (valueV p) idx)) A.wp A.bp
  eh : h = hiddenV y A.g2 A.b2 A.w1 A.c1
  ez : z = afterMlpV y h A.w2 A.c2

/-- They compute the layer over the rows the table names. -/
theorem Layer.at {A : Arrays} {idx : IVec S4096x16 32} {x z : FVec Ideal S4096x256 .f32} {p : FVec Ideal S4096x768 .f32}
    {s e : FVec Ideal S4096x16 .f32} {y : FVec Ideal S4096x256 .f32} {h : FVec Ideal S4096x1024 .f32} (L : Layer A idx x z p s e y h)
    (σ : Fin 4096 → Fin 16 → Fin 4096) (hi : ∀ r t, idx (ix2 r t) = BitVec.ofNat 32 (σ r t).val)
    (X : Fin 4096 → Fin 256 → EReal) (hX : ∀ r k, x (ix2 r k) = X r k) (r : Fin 4096) (c : Fin 256) :
    z (ix2 r c) = layerS σ A.params X r c := by
  obtain rfl : X = fun r k => x (ix2 r k) := by funext r k; exact (hX r k).symm
  have hp : ∀ r j, p (ix2 r j) = qkv A.params (fun k => x (ix2 r k)) j := fun r j => by rw [L.ep, projV_at]; rfl
  have hs : ∀ t, s (ix2 r t) = score (fun c => qkv A.params (fun k => x (ix2 r k)) (qcol c))
      (fun c => qkv A.params (fun k => x (ix2 (σ r t) k)) (kcol c)) := fun t => by
    rw [L.es, scoresV_at]
    simp only [gatherV_at _ _ σ hi, queryV_at, keyV_at, hp]
  have ha : ∀ c, mixV e (gatherV (valueV p) idx) (ix2 r c) = mix
      (fun t => score (fun c => qkv A.params (fun k => x (ix2 r k)) (qcol c)) (fun c => qkv A.params (fun k => x (ix2 (σ r t) k)) (kcol c)))
      (fun t c => qkv A.params (fun k => x (ix2 (σ r t) k)) (vcol c)) c := fun c => by
    rw [L.ee, mixV_at]
    simp only [expsV_at, gatherV_at _ _ σ hi, valueV_at, hp, hs]
    rfl
  have hy : ∀ c, y (ix2 r c) = x (ix2 r c) + (∑ k, mixV e (gatherV (valueV p) idx) (ix2 r k) * A.wp (ix2 k c) + A.bp (ix1 c)) :=
    fun c => by rw [L.ey, afterAttnV_at]
  have hh : ∀ j, h (ix2 r j) = hidden A.params (fun c => y (ix2 r c)) j := fun j => by rw [L.eh, hiddenV_at]; rfl
  rw [L.ez, afterMlpV_at]
  simp only [hh, hy, ha]
  rfl

/-- The positions a top-k gives, at an index: the row's stable order by its comparison. -/
theorem topK_at {α : Type} {B N K : Nat} (hK : K ≤ N) (gt : α → α → BitVec 1) (x : (⟨2, ![B, N]⟩ : Shape).Idx → α)
    (h : (⟨2, ![B, N]⟩ : Shape).Slices (fun _ => 0) ⟨2, ![B, K]⟩) (r : Fin B) (t : Fin K) :
    (Host.topK ⟨2, ![B, K]⟩ 1 gt x h).2 (ix2 r t)
      = BitVec.ofNat 32 (sortedFrom (fun p q => gt (x (ix2 r p)) (x (ix2 r q)) == 1#1) (t.castLE hK)).val := by
  have key : ∀ j : (⟨2, ![B, N]⟩ : Shape).Idx, j = ix2 r (t.castLE hK) →
      BitVec.ofNat 32 (sortedFrom (fun k k' => gt (x (j.along (1 : Fin 2) k)) (x (j.along (1 : Fin 2) k')) == 1#1) (j 1)).val
        = BitVec.ofNat 32 (sortedFrom (fun p q => gt (x (ix2 r p)) (x (ix2 r q)) == 1#1) (t.castLE hK)).val := by
    rintro j rfl
    have e : ∀ k : Fin N, (ix2 r (t.castLE hK) : (⟨2, ![B, N]⟩ : Shape).Idx).along (1 : Fin 2) k = ix2 r k := fun k => by
      funext a
      match a with
      | ⟨0, _⟩ => rfl
      | ⟨1, _⟩ => rfl
    have e' : (fun k k' : Fin N => gt (x ((ix2 r (t.castLE hK) : (⟨2, ![B, N]⟩ : Shape).Idx).along (1 : Fin 2) k))
        (x ((ix2 r (t.castLE hK) : (⟨2, ![B, N]⟩ : Shape).Idx).along (1 : Fin 2) k')) == 1#1)
        = fun p q => gt (x (ix2 r p)) (x (ix2 r q)) == 1#1 := by
      funext k k'
      rw [e, e]
    exact congrArg (fun R => BitVec.ofNat 32 (sortedFrom R (t.castLE hK)).val) e'
  refine Eq.trans ?_ (key (fun a => ⟨0 + (ix2 r t (Fin.cast h.1.symm a)).val, by have := h.2 a; have := (ix2 r t (Fin.cast h.1.symm a)).isLt; omega⟩) ?_)
  · rfl
  · funext a
    refine Fin.ext ?_
    match a with
    | ⟨0, _⟩ => exact Nat.zero_add _
    | ⟨1, _⟩ => exact Nat.zero_add _

/-- The table: the stable order of a row by the negated entries, greatest first, is the order of picks. -/
theorem table_at (x : FVec Ideal S4096x4096 .f32) (D : Fin 4096 → Fin 4096 → EReal) (hx : ∀ r n, x (ix2 r n) = -D r n)
    (hD : ∀ r n, D r n ≠ ⊤) (r : Fin 4096) (t : Fin 16) :
    (Host.topK S4096x16 1 (FloatOps.cmpfTotal .gt) x sliceFits_S4096x4096_S4096x16).2 (ix2 r t) = BitVec.ofNat 32 (pick (D r) t.val).val := by
  rw [← sortedFrom_eq_pick (hD r) (k := 16) (by norm_num)
    (fun p q => FloatOps.cmpfTotal (F := Ideal) (φ := .f32) .gt (x (ix2 r p)) (x (ix2 r q)) == 1#1) ?_ t]
  · exact topK_at (by norm_num) _ x sliceFits_S4096x4096_S4096x16 r t
  · intro p q
    rw [hx, hx]
    show (BitVec.ofBool (decide (-D r q < -D r p)) == 1#1) = decide (D r p < D r q)
    rw [decide_eq_decide.mpr EReal.neg_lt_neg_iff]
    cases decide (D r p < D r q) <;> rfl

/-! ## Weights cut from the stacked arguments -/

theorem cut256_at (l : Fin 4) (a : FVec Ideal S4x256 .f32) (h : S4x256.Slices ![l.val, 0] S1x256) (k : Fin 256) :
    (shapeCast S256 (extractStridedSlice S1x256 ![l.val, 0] a h) shapeCasts_S1x256_S256) (ix1 k) = a (ix2 l k) := by
  pointwise

theorem cut1024_at (l : Fin 4) (a : FVec Ideal S4x1024 .f32) (h : S4x1024.Slices ![l.val, 0] S1x1024) (k : Fin 1024) :
    (shapeCast S1024 (extractStridedSlice S1x1024 ![l.val, 0] a h) shapeCasts_S1x1024_S1024) (ix1 k) = a (ix2 l k) := by
  pointwise

theorem cut256x768_at (l : Fin 4) (a : FVec Ideal S4x256x768 .f32) (h : S4x256x768.Slices ![l.val, 0, 0] S1x256x768) (k : Fin 256) (j : Fin 768) :
    (shapeCast S256x768 (extractStridedSlice S1x256x768 ![l.val, 0, 0] a h) shapeCasts_S1x256x768_S256x768) (ix2 k j) = a (ix3 l k j) := by
  pointwise

theorem cut256x256_at (l : Fin 4) (a : FVec Ideal S4x256x256 .f32) (h : S4x256x256.Slices ![l.val, 0, 0] S1x256x256) (k : Fin 256) (j : Fin 256) :
    (shapeCast S256x256 (extractStridedSlice S1x256x256 ![l.val, 0, 0] a h) shapeCasts_S1x256x256_S256x256) (ix2 k j) = a (ix3 l k j) := by
  pointwise

theorem cut256x1024_at (l : Fin 4) (a : FVec Ideal S4x256x1024 .f32) (h : S4x256x1024.Slices ![l.val, 0, 0] S1x256x1024) (k : Fin 256) (j : Fin 1024) :
    (shapeCast S256x1024 (extractStridedSlice S1x256x1024 ![l.val, 0, 0] a h) shapeCasts_S1x256x1024_S256x1024) (ix2 k j) = a (ix3 l k j) := by
  pointwise

theorem cut1024x256_at (l : Fin 4) (a : FVec Ideal S4x1024x256 .f32) (h : S4x1024x256.Slices ![l.val, 0, 0] S1x1024x256) (k : Fin 1024) (j : Fin 256) :
    (shapeCast S1024x256 (extractStridedSlice S1x1024x256 ![l.val, 0, 0] a h) shapeCasts_S1x1024x256_S1024x256) (ix2 k j) = a (ix3 l k j) := by
  pointwise

/-- The slices at layer `l` fit. -/
structure Fits (l : Fin 4) : Prop where
  s256 : S4x256.Slices ![l.val, 0] S1x256
  s1024 : S4x1024.Slices ![l.val, 0] S1x1024
  s256x768 : S4x256x768.Slices ![l.val, 0, 0] S1x256x768
  s256x256 : S4x256x256.Slices ![l.val, 0, 0] S1x256x256
  s256x1024 : S4x256x1024.Slices ![l.val, 0, 0] S1x256x1024
  s1024x256 : S4x1024x256.Slices ![l.val, 0, 0] S1x1024x256

/-- Layer `l`'s arrays, cut from the stacked arguments. -/
def cut {l : Fin 4} (H : Fits l) (ln1g ln1b : FVec Ideal S4x256 .f32) (wqkv : FVec Ideal S4x256x768 .f32) (wproj : FVec Ideal S4x256x256 .f32)
    (bproj ln2g ln2b : FVec Ideal S4x256 .f32) (w1 : FVec Ideal S4x256x1024 .f32) (b1 : FVec Ideal S4x1024 .f32)
    (w2 : FVec Ideal S4x1024x256 .f32) (b2 : FVec Ideal S4x256 .f32) : Arrays where
  g1 := shapeCast _ (extractStridedSlice S1x256 ![l.val, 0] ln1g H.s256) shapeCasts_S1x256_S256
  b1 := shapeCast _ (extractStridedSlice S1x256 ![l.val, 0] ln1b H.s256) shapeCasts_S1x256_S256
  wqkv := shapeCast _ (extractStridedSlice S1x256x768 ![l.val, 0, 0] wqkv H.s256x768) shapeCasts_S1x256x768_S256x768
  wp := shapeCast _ (extractStridedSlice S1x256x256 ![l.val, 0, 0] wproj H.s256x256) shapeCasts_S1x256x256_S256x256
  bp := shapeCast _ (extractStridedSlice S1x256 ![l.val, 0] bproj H.s256) shapeCasts_S1x256_S256
  g2 := shapeCast _ (extractStridedSlice S1x256 ![l.val, 0] ln2g H.s256) shapeCasts_S1x256_S256
  b2 := shapeCast _ (extractStridedSlice S1x256 ![l.val, 0] ln2b H.s256) shapeCasts_S1x256_S256
  w1 := shapeCast _ (extractStridedSlice S1x256x1024 ![l.val, 0, 0] w1 H.s256x1024) shapeCasts_S1x256x1024_S256x1024
  c1 := shapeCast _ (extractStridedSlice S1x1024 ![l.val, 0] b1 H.s1024) shapeCasts_S1x1024_S1024
  w2 := shapeCast _ (extractStridedSlice S1x1024x256 ![l.val, 0, 0] w2 H.s1024x256) shapeCasts_S1x1024x256_S1024x256
  c2 := shapeCast _ (extractStridedSlice S1x256 ![l.val, 0] b2 H.s256) shapeCasts_S1x256_S256

/-- Their entries are the layer's weights. -/
theorem cut_params {l : Fin 4} (H : Fits l) (ln1g ln1b : FVec Ideal S4x256 .f32) (wqkv : FVec Ideal S4x256x768 .f32)
    (wproj : FVec Ideal S4x256x256 .f32) (bproj ln2g ln2b : FVec Ideal S4x256 .f32) (w1 : FVec Ideal S4x256x1024 .f32)
    (b1 : FVec Ideal S4x1024 .f32) (w2 : FVec Ideal S4x1024x256 .f32) (b2 : FVec Ideal S4x256 .f32) :
    (cut H ln1g ln1b wqkv wproj bproj ln2g ln2b w1 b1 w2 b2).params = weights ln1g ln1b wqkv wproj bproj ln2g ln2b w1 b1 w2 b2 l := by
  unfold Arrays.params cut weights
  simp only [cut256_at, cut1024_at, cut256x768_at, cut256x256_at, cut256x1024_at, cut1024x256_at]

end Cert.Proof.Reference

end
-- ==== Proof.RefResult.lean ====
/-
  The reference's result: the distances' table, then the four layers one after the other.
-/
module

public import proofs.«01_k».proof.Proof.RefLayer
public import proofs.«01_k».proof.Proof.MaskArray
public import proofs.«01_k».proof.Proof.Gen.ReferenceIdeal.Run

@[expose] public section

set_option maxRecDepth 16384

noncomputable section

namespace Cert.Proof.Reference

open Idealize.ShloMosaic Idealize.ShloMosaic.TcCoe Cert.ReferenceIdeal Cert.ReferenceIdeal.Gen Cert.ReferenceIdeal.Facts Cert.ReferenceIdeal.Value

/-- The `t`-th pick of row `r`. -/
def picks (p : Fin 4096 → Fin 3 → EReal) (r : Fin 4096) (t : Fin 16) : Fin 4096 := pick (dist p r) t.val

/-- The four layers over the picked rows. -/
def fourS (p : Fin 4096 → Fin 3 → EReal) (P : Fin 4 → Params) (X : Fin 4096 → Fin 256 → EReal) : Fin 4096 → Fin 256 → EReal :=
  layerS (picks p) (P 3) (layerS (picks p) (P 2) (layerS (picks p) (P 1) (layerS (picks p) (P 0) X)))

variable (U : Valuation τ sig (Elt Ideal))

/-- The keys sorted by are the negated distances. -/
theorem keys_at (r n : Fin 4096) :
    res_main_v12 U (ix2 r n) = -dist (fun r x => U (Proc.devRef .tc main_arg0) (ix2 r x)) r n := by
  unfold res_main_v12 res_main_v1 dist
  pointwise

/-- The table of indices holds the picks. -/
theorem table (hp : ∀ r x, IsReal (U (Proc.devRef .tc main_arg0) (ix2 r x))) (r : Fin 4096) (t : Fin 16) :
    res_main_indices U (ix2 r t)
      = BitVec.ofNat 32 (picks (fun r x => U (Proc.devRef .tc main_arg0) (ix2 r x)) r t).val :=
  table_at _ _ (keys_at U) (fun r n => (isReal_dist _ hp r n).ne_top) r t

/-- Layer `l`'s arrays among the arguments. -/
def arrays {l : Fin 4} (H : Fits l) : Arrays :=
  cut H (U (Proc.devRef .tc main_arg2)) (U (Proc.devRef .tc main_arg3)) (U (Proc.devRef .tc main_arg4)) (U (Proc.devRef .tc main_arg5))
    (U (Proc.devRef .tc main_arg6)) (U (Proc.devRef .tc main_arg7)) (U (Proc.devRef .tc main_arg8)) (U (Proc.devRef .tc main_arg9))
    (U (Proc.devRef .tc main_arg10)) (U (Proc.devRef .tc main_arg11)) (U (Proc.devRef .tc main_arg12))

/-- The slices of each layer are in bounds. -/
theorem fits0 : Fits 0 := ⟨slices_S4x256_S1x256_0_0, slices_S4x1024_S1x1024_0_0, slices_S4x256x768_S1x256x768_0_0_0,
  slices_S4x256x256_S1x256x256_0_0_0, slices_S4x256x1024_S1x256x1024_0_0_0, slices_S4x1024x256_S1x1024x256_0_0_0⟩
theorem fits1 : Fits 1 := ⟨slices_S4x256_S1x256_1_0, slices_S4x1024_S1x1024_1_0, slices_S4x256x768_S1x256x768_1_0_0,
  slices_S4x256x256_S1x256x256_1_0_0, slices_S4x256x1024_S1x256x1024_1_0_0, slices_S4x1024x256_S1x1024x256_1_0_0⟩
theorem fits2 : Fits 2 := ⟨slices_S4x256_S1x256_2_0, slices_S4x1024_S1x1024_2_0, slices_S4x256x768_S1x256x768_2_0_0,
  slices_S4x256x256_S1x256x256_2_0_0, slices_S4x256x1024_S1x256x1024_2_0_0, slices_S4x1024x256_S1x1024x256_2_0_0⟩
theorem fits3 : Fits 3 := ⟨slices_S4x256_S1x256_3_0, slices_S4x1024_S1x1024_3_0, slices_S4x256x768_S1x256x768_3_0_0,
  slices_S4x256x256_S1x256x256_3_0_0, slices_S4x256x1024_S1x256x1024_3_0_0, slices_S4x1024x256_S1x1024x256_3_0_0⟩

/-- Each of the reference's four passes is a layer of the named arrays. -/
theorem isLayer0 : Layer (arrays U fits0) (res_main_indices U) (U (Proc.devRef .tc main_arg1)) (res_main_v136 U) (res_main_v43 U) (res_main_v63 U) (res_main_v70 U)
    (res_main_v84 U) (res_main_v120 U) := ⟨rfl, rfl, rfl, rfl, rfl, rfl⟩

theorem isLayer1 : Layer (arrays U fits1) (res_main_indices U) (res_main_v136 U) (res_main_v260 U) (res_main_v167 U) (res_main_v187 U) (res_main_v194 U)
    (res_main_v208 U) (res_main_v244 U) := ⟨rfl, rfl, rfl, rfl, rfl, rfl⟩

theorem isLayer2 : Layer (arrays U fits2) (res_main_indices U) (res_main_v260 U) (res_main_v384 U) (res_main_v291 U) (res_main_v311 U) (res_main_v318 U)
    (res_main_v332 U) (res_main_v368 U) := ⟨rfl, rfl, rfl, rfl, rfl, rfl⟩

/-- The result's composed term. -/
def result : FVec Ideal S4096x256 .f32 := afterMlpV (res_main_v456 U) (res_main_v492 U) (arrays U fits3).w2 (arrays U fits3).c2

theorem isLayer3 : Layer (arrays U fits3) (res_main_indices U) (res_main_v384 U) (result U) (res_main_v415 U) (res_main_v435 U) (res_main_v442 U)
    (res_main_v456 U) (res_main_v492 U) := ⟨rfl, rfl, rfl, rfl, rfl, rfl⟩

/-- The weights of layer `l` among the arguments. -/
def params (l : Fin 4) : Params :=
  weights (U (Proc.devRef .tc main_arg2)) (U (Proc.devRef .tc main_arg3)) (U (Proc.devRef .tc main_arg4)) (U (Proc.devRef .tc main_arg5))
    (U (Proc.devRef .tc main_arg6)) (U (Proc.devRef .tc main_arg7)) (U (Proc.devRef .tc main_arg8)) (U (Proc.devRef .tc main_arg9))
    (U (Proc.devRef .tc main_arg10)) (U (Proc.devRef .tc main_arg11)) (U (Proc.devRef .tc main_arg12)) l

/-- A layer's cut arrays hold its weights. -/
theorem arrays_params {l : Fin 4} (H : Fits l) : (arrays U H).params = params U l := cut_params H _ _ _ _ _ _ _ _ _ _ _

/-- The result, at an index. -/
theorem result_at (hp : ∀ r x, IsReal (U (Proc.devRef .tc main_arg0) (ix2 r x))) (r : Fin 4096) (c : Fin 256) :
    result U (ix2 r c) = fourS (fun r x => U (Proc.devRef .tc main_arg0) (ix2 r x)) (params U)
      (fun r k => U (Proc.devRef .tc main_arg1) (ix2 r k)) r c := by
  have h0 := (isLayer0 U).at _ (table U hp) _ fun _ _ => rfl
  have h1 := (isLayer1 U).at _ (table U hp) _ h0
  have h2 := (isLayer2 U).at _ (table U hp) _ h1
  have h3 := (isLayer3 U).at _ (table U hp) _ h2 r c
  rw [h3]
  simp only [arrays_params]
  rfl

end Cert.Proof.Reference

end
-- ==== Proof.Equation.lean ====
/-
  The equation: where the points and the weights the scores depend on are finite, the kernel's result is the reference's.
-/
module

public import proofs.«01_k».proof.Proof.ChainAll
public import proofs.«01_k».proof.Proof.Finite
public import proofs.«01_k».proof.Proof.Launch
public import proofs.«01_k».proof.Proof.RefResult

@[expose] public section

set_option maxRecDepth 16384

noncomputable section

namespace Cert.Proof

open Idealize.ShloMosaic Idealize.ShloMosaic.TcCoe Idealize.SL.Sem

/-- A row's sixteen picks are distinct. -/
theorem picks_injective (p : Fin 4096 → Fin 3 → EReal) (hp : ∀ r x, IsReal (p r x)) (r : Fin 4096) :
    Function.Injective (Reference.picks p r) := by
  have h := pick_injective (d := dist p r) (fun n => (isReal_dist p hp r n).ne_top) (k := 16) (by norm_num)
  intro a b hab
  exact h hab

/-- A row looked at is one of the picks. -/
theorem picked_iff (p : Fin 4096 → Fin 3 → EReal) (r n : Fin 4096) : Picked p r n ↔ ∃ t, Reference.picks p r t = n := by
  unfold Picked Reference.picks
  exact Iff.rfl

open Classical in
/-- One layer: masked attention over all rows is attention over the picked rows. -/
theorem layer_eq {P : Params} (hP : P.Fin') (p : Fin 4096 → Fin 3 → EReal) (hp : ∀ r x, IsReal (p r x))
    (X : Fin 4096 → Fin 256 → EReal) : layerM (Picked p) P X = layerS (Reference.picks p) P X :=
  layerM_eq_layerS hP (Reference.picks p) (picks_injective p hp) (Picked p) (picked_iff p) X

/-- The four layers. -/
theorem four_eq {P : Fin 4 → Params} (hP : ∀ l, (P l).Fin') (p : Fin 4096 → Fin 3 → EReal) (hp : ∀ r x, IsReal (p r x))
    (X : Fin 4096 → Fin 256 → EReal) : fourM p P X = Reference.fourS p P X := by
  unfold fourM Reference.fourS
  rw [layer_eq (hP 0) p hp, layer_eq (hP 1) p hp, layer_eq (hP 2) p hp, layer_eq (hP 3) p hp]

/-- The kernel's result array is the reference's, when the two programs' arguments agree and the kernel's points and
score weights are finite. -/
theorem result_eq [Cert.Pre_scores_finite.Facts] (m : (ℓ : Loc Cert.KernelIdeal.nD Cert.KernelIdeal.τ Cert.KernelIdeal.sig) → Buf (Elt Ideal) ℓ)
    (ρ : Dev Cert.KernelIdeal.nD → PrngReg) (h : Cert.Pre_KernelIdeal_scores_finite m) (c : Dev Cert.KernelIdeal.nD)
    (U : Valuation Cert.ReferenceIdeal.τ Cert.ReferenceIdeal.sig (Elt Ideal))
    (h0 : U (Proc.devRef .tc Cert.ReferenceIdeal.main_arg0) = m ((c : Thread Cert.KernelIdeal.nD Cert.KernelIdeal.τ).loc Cert.KernelIdeal.main_arg0))
    (h1 : U (Proc.devRef .tc Cert.ReferenceIdeal.main_arg1) = m ((c : Thread Cert.KernelIdeal.nD Cert.KernelIdeal.τ).loc Cert.KernelIdeal.main_arg1))
    (hw : Reference.params U = kernelWeights m c) :
    Reference.result U = Cert.KernelIdeal.Gen.W18 m ρ c (Proc.devRef .tc Cert.KernelIdeal.main_v125) := by
  refine Eq.trans ?_ (chain m ρ c _ (isReal_points m h c) (fun _ _ => rfl) _ (fun _ _ => rfl)).symm
  rw [four_eq (isReal_weights m h c) _ (isReal_points m h c)]
  funext i
  rw [eq_ix2 i]
  refine (Reference.result_at U (by rw [h0]; exact isReal_points m h c) _ _).trans ?_
  rw [hw, h0, h1]
  rfl

/-- The kernel and the reference compute the same result from the same arguments, the points and score weights finite. -/
theorem sameResult (hpre : Cert.Pre_scores_finite.Facts) :
    Cert.algebraic_KernelIdeal_ReferenceIdeal_pre_scores_finite (hKernelIdeal := Cert.KernelIdeal.Gen.facts)
      (hReferenceIdeal := Cert.ReferenceIdeal.Gen.facts) (hPre_scores_finite := hpre) := by
  intro m g m' g' h agree
  refine ⟨fun c => Cert.KernelIdeal.Gen.W18 m g c (Proc.devRef .tc Cert.KernelIdeal.main_v125), ?_, ?_⟩
  · exact (θ_run _ _ _).mono (fun r hr c => ⟨hr.1 c, hr.2 c⟩)
      (θ_run_and (Cert.KernelIdeal.Gen.result_run m g) (Cert.KernelIdeal.Gen.unchanged m g))
  · refine (θ_run _ _ _).mono (fun r hr c => ⟨(hr c).1.trans ?_, (hr c).2⟩) (Cert.ReferenceIdeal.Value.run (F := Ideal) m' g')
    obtain ⟨a0, a1, a2, a3, a4, a5, a6, a7, a8, a9, a10, a11, a12, -⟩ := agree c
    refine result_eq m g h c (StableHlo.launchContents m' c) a0 a1 ?_
    funext l
    show weights _ _ _ _ _ _ _ _ _ _ _ l = weights _ _ _ _ _ _ _ _ _ _ _ l
    congr 1

end Cert.Proof

end
-- ==== Proof.lean ====
/-
  The certificate: the programs end cleanly and keep their arguments, the idealized kernel is the kernel with its
  mask constant read as minus infinity, and it computes the reference's result wherever the points and
  the weights the scores depend on are finite.
-/
module

public import proofs.«01_k».proof.Defs
public import proofs.«01_k».proof.Proof.Frames
public import proofs.«01_k».proof.Proof.Equation

@[expose] public section

namespace Cert.Proof

/-- Every claim of the certificate. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, frameKernelIdeal_pre _,
    frameReference, frameReference_pre _, maskPreserved, sameResult _⟩

end Cert.Proof

end
